-- ==== Defs.lean ====
def Pre_Gemm (m : (ℓ : Loc Cert.Gemm.nD Cert.Gemm.τ Cert.Gemm.sig) → Buf (Elt Bits) ℓ) : Prop :=
  True

def Pre_GemmIdeal (m : (ℓ : Loc Cert.GemmIdeal.nD Cert.GemmIdeal.τ Cert.GemmIdeal.sig) → Buf (Elt Ideal) ℓ) : Prop :=
  True

def Pre_GemmRefIdeal (m : (ℓ : Loc Cert.GemmRefIdeal.nD Cert.GemmRefIdeal.τ Cert.GemmRefIdeal.sig) → Buf (Elt Ideal) ℓ) : Prop :=
  True

def Pre_Rot (m : (ℓ : Loc Cert.Rot.nD Cert.Rot.τ Cert.Rot.sig) → Buf (Elt Bits) ℓ) : Prop :=
  True

def Pre_RotIdeal (m : (ℓ : Loc Cert.RotIdeal.nD Cert.RotIdeal.τ Cert.RotIdeal.sig) → Buf (Elt Ideal) ℓ) : Prop :=
  True

def Pre_RotIdeal_finite [hPre_finite : Cert.Pre_finite.Facts] (m : (ℓ : Loc Cert.RotIdeal.nD Cert.RotIdeal.τ Cert.RotIdeal.sig) → Buf (Elt Ideal) ℓ) : Prop :=
  ∀ c : Dev Cert.RotIdeal.nD,
    (Cert.Pre_finite.fn (F := Ideal) (m ((c.tc : Thread Cert.RotIdeal.nD Cert.RotIdeal.τ).loc Cert.RotIdeal.main_arg0)) (m ((c.tc : Thread Cert.RotIdeal.nD Cert.RotIdeal.τ).loc Cert.RotIdeal.main_arg1))) = (fun _ => 1#1)

def Pre_RotRefIdeal (m : (ℓ : Loc Cert.RotRefIdeal.nD Cert.RotRefIdeal.τ Cert.RotRefIdeal.sig) → Buf (Elt Ideal) ℓ) : Prop :=
  True

def Pre_RotRefIdeal_finite [hPre_finite : Cert.Pre_finite.Facts] (m : (ℓ : Loc Cert.RotRefIdeal.nD Cert.RotRefIdeal.τ Cert.RotRefIdeal.sig) → Buf (Elt Ideal) ℓ) : Prop :=
  ∀ c : Dev Cert.RotRefIdeal.nD,
    (Cert.Pre_finite.fn (F := Ideal) (m ((c.tc : Thread Cert.RotRefIdeal.nD Cert.RotRefIdeal.τ).loc Cert.RotRefIdeal.main_arg0)) (m ((c.tc : Thread Cert.RotRefIdeal.nD Cert.RotRefIdeal.τ).loc Cert.RotRefIdeal.main_arg1))) = (fun _ => 1#1)

def Pre_Dec (m : (ℓ : Loc Cert.Dec.nD Cert.Dec.τ Cert.Dec.sig) → Buf (Elt Bits) ℓ) : Prop :=
  True

def Pre_DecIdeal (m : (ℓ : Loc Cert.DecIdeal.nD Cert.DecIdeal.τ Cert.DecIdeal.sig) → Buf (Elt Ideal) ℓ) : Prop :=
  True

def Pre_DecRefIdeal (m : (ℓ : Loc Cert.DecRefIdeal.nD Cert.DecRefIdeal.τ Cert.DecRefIdeal.sig) → Buf (Elt Ideal) ℓ) : Prop :=
  True

def quiescent_Gemm [hGemm : Cert.Gemm.Facts] : Prop :=
  ∀ (m : (ℓ : Loc Cert.Gemm.nD Cert.Gemm.τ Cert.Gemm.sig) → Buf (Elt Bits) ℓ) (g : Dev Cert.Gemm.nD → PrngReg), Pre_Gemm m →
    θ_run (Cert.Gemm.defs (F := Bits)) (onTc (τ := Cert.Gemm.τ) (Cert.Gemm.main (F := Bits))) ⟨m, fun _ => 0, g⟩ (fun r => (∀ c : Dev Cert.Gemm.nD,
      r.2.mem ((c.tc : Thread Cert.Gemm.nD Cert.Gemm.τ).loc Cert.Gemm.main_arg0) = m ((c.tc : Thread Cert.Gemm.nD Cert.Gemm.τ).loc Cert.Gemm.main_arg0)
      ∧ r.2.mem ((c.tc : Thread Cert.Gemm.nD Cert.Gemm.τ).loc Cert.Gemm.main_arg1) = m ((c.tc : Thread Cert.Gemm.nD Cert.Gemm.τ).loc Cert.Gemm.main_arg1)
      ∧ r.2.mem ((c.tc : Thread Cert.Gemm.nD Cert.Gemm.τ).loc Cert.Gemm.main_arg2) = m ((c.tc : Thread Cert.Gemm.nD Cert.Gemm.τ).loc Cert.Gemm.main_arg2)
      ∧ r.2.mem ((c.tc : Thread Cert.Gemm.nD Cert.Gemm.τ).loc Cert.Gemm.main_arg3) = m ((c.tc : Thread Cert.Gemm.nD Cert.Gemm.τ).loc Cert.Gemm.main_arg3)
      ∧ r.2.mem ((c.tc : Thread Cert.Gemm.nD Cert.Gemm.τ).loc Cert.Gemm.main_arg4) = m ((c.tc : Thread Cert.Gemm.nD Cert.Gemm.τ).loc Cert.Gemm.main_arg4)
      ∧ r.2.mem ((c.tc : Thread Cert.Gemm.nD Cert.Gemm.τ).loc Cert.Gemm.main_arg5) = m ((c.tc : Thread Cert.Gemm.nD Cert.Gemm.τ).loc Cert.Gemm.main_arg5))
      ∧ r.2.sem = fun _ => 0)

def quiescent_GemmIdeal [hGemmIdeal : Cert.GemmIdeal.Facts] : Prop :=
  ∀ (m : (ℓ : Loc Cert.GemmIdeal.nD Cert.GemmIdeal.τ Cert.GemmIdeal.sig) → Buf (Elt Ideal) ℓ) (g : Dev Cert.GemmIdeal.nD → PrngReg), Pre_GemmIdeal m →
    θ_run (Cert.GemmIdeal.defs (F := Ideal)) (onTc (τ := Cert.GemmIdeal.τ) (Cert.GemmIdeal.main (F := Ideal))) ⟨m, fun _ => 0, g⟩ (fun r => (∀ c : Dev Cert.GemmIdeal.nD,
      r.2.mem ((c.tc : Thread Cert.GemmIdeal.nD Cert.GemmIdeal.τ).loc Cert.GemmIdeal.main_arg0) = m ((c.tc : Thread Cert.GemmIdeal.nD Cert.GemmIdeal.τ).loc Cert.GemmIdeal.main_arg0)
      ∧ r.2.mem ((c.tc : Thread Cert.GemmIdeal.nD Cert.GemmIdeal.τ).loc Cert.GemmIdeal.main_arg1) = m ((c.tc : Thread Cert.GemmIdeal.nD Cert.GemmIdeal.τ).loc Cert.GemmIdeal.main_arg1)
      ∧ r.2.mem ((c.tc : Thread Cert.GemmIdeal.nD Cert.GemmIdeal.τ).loc Cert.GemmIdeal.main_arg2) = m ((c.tc : Thread Cert.GemmIdeal.nD Cert.GemmIdeal.τ).loc Cert.GemmIdeal.main_arg2)
      ∧ r.2.mem ((c.tc : Thread Cert.GemmIdeal.nD Cert.GemmIdeal.τ).loc Cert.GemmIdeal.main_arg3) = m ((c.tc : Thread Cert.GemmIdeal.nD Cert.GemmIdeal.τ).loc Cert.GemmIdeal.main_arg3)
      ∧ r.2.mem ((c.tc : Thread Cert.GemmIdeal.nD Cert.GemmIdeal.τ).loc Cert.GemmIdeal.main_arg4) = m ((c.tc : Thread Cert.GemmIdeal.nD Cert.GemmIdeal.τ).loc Cert.GemmIdeal.main_arg4)
      ∧ r.2.mem ((c.tc : Thread Cert.GemmIdeal.nD Cert.GemmIdeal.τ).loc Cert.GemmIdeal.main_arg5) = m ((c.tc : Thread Cert.GemmIdeal.nD Cert.GemmIdeal.τ).loc Cert.GemmIdeal.main_arg5))
      ∧ r.2.sem = fun _ => 0)

def quiescent_GemmRefIdeal [hGemmRefIdeal : Cert.GemmRefIdeal.Facts] : Prop :=
  ∀ (m : (ℓ : Loc Cert.GemmRefIdeal.nD Cert.GemmRefIdeal.τ Cert.GemmRefIdeal.sig) → Buf (Elt Ideal) ℓ) (g : Dev Cert.GemmRefIdeal.nD → PrngReg), Pre_GemmRefIdeal m →
    θ_run (Cert.GemmRefIdeal.defs (F := Ideal)) (onTc (τ := Cert.GemmRefIdeal.τ) (Cert.GemmRefIdeal.main (F := Ideal))) ⟨m, fun _ => 0, g⟩ (fun r => (∀ c : Dev Cert.GemmRefIdeal.nD,
      r.2.mem ((c.tc : Thread Cert.GemmRefIdeal.nD Cert.GemmRefIdeal.τ).loc Cert.GemmRefIdeal.main_arg0) = m ((c.tc : Thread Cert.GemmRefIdeal.nD Cert.GemmRefIdeal.τ).loc Cert.GemmRefIdeal.main_arg0)
      ∧ r.2.mem ((c.tc : Thread Cert.GemmRefIdeal.nD Cert.GemmRefIdeal.τ).loc Cert.GemmRefIdeal.main_arg1) = m ((c.tc : Thread Cert.GemmRefIdeal.nD Cert.GemmRefIdeal.τ).loc Cert.GemmRefIdeal.main_arg1)
      ∧ r.2.mem ((c.tc : Thread Cert.GemmRefIdeal.nD Cert.GemmRefIdeal.τ).loc Cert.GemmRefIdeal.main_arg2) = m ((c.tc : Thread Cert.GemmRefIdeal.nD Cert.GemmRefIdeal.τ).loc Cert.GemmRefIdeal.main_arg2)
      ∧ r.2.mem ((c.tc : Thread Cert.GemmRefIdeal.nD Cert.GemmRefIdeal.τ).loc Cert.GemmRefIdeal.main_arg3) = m ((c.tc : Thread Cert.GemmRefIdeal.nD Cert.GemmRefIdeal.τ).loc Cert.GemmRefIdeal.main_arg3)
      ∧ r.2.mem ((c.tc : Thread Cert.GemmRefIdeal.nD Cert.GemmRefIdeal.τ).loc Cert.GemmRefIdeal.main_arg4) = m ((c.tc : Thread Cert.GemmRefIdeal.nD Cert.GemmRefIdeal.τ).loc Cert.GemmRefIdeal.main_arg4)
      ∧ r.2.mem ((c.tc : Thread Cert.GemmRefIdeal.nD Cert.GemmRefIdeal.τ).loc Cert.GemmRefIdeal.main_arg5) = m ((c.tc : Thread Cert.GemmRefIdeal.nD Cert.GemmRefIdeal.τ).loc Cert.GemmRefIdeal.main_arg5))
      ∧ r.2.sem = fun _ => 0)

def quiescent_Rot [hRot : Cert.Rot.Facts] : Prop :=
  ∀ (m : (ℓ : Loc Cert.Rot.nD Cert.Rot.τ Cert.Rot.sig) → Buf (Elt Bits) ℓ) (g : Dev Cert.Rot.nD → PrngReg), Pre_Rot m →
    θ_run (Cert.Rot.defs (F := Bits)) (onTc (τ := Cert.Rot.τ) (Cert.Rot.main (F := Bits))) ⟨m, fun _ => 0, g⟩ (fun r => (∀ c : Dev Cert.Rot.nD,
      r.2.mem ((c.tc : Thread Cert.Rot.nD Cert.Rot.τ).loc Cert.Rot.main_arg0) = m ((c.tc : Thread Cert.Rot.nD Cert.Rot.τ).loc Cert.Rot.main_arg0)
      ∧ r.2.mem ((c.tc : Thread Cert.Rot.nD Cert.Rot.τ).loc Cert.Rot.main_arg1) = m ((c.tc : Thread Cert.Rot.nD Cert.Rot.τ).loc Cert.Rot.main_arg1))
      ∧ r.2.sem = fun _ => 0)

def quiescent_RotIdeal [hRotIdeal : Cert.RotIdeal.Facts] : Prop :=
  ∀ (m : (ℓ : Loc Cert.RotIdeal.nD Cert.RotIdeal.τ Cert.RotIdeal.sig) → Buf (Elt Ideal) ℓ) (g : Dev Cert.RotIdeal.nD → PrngReg), Pre_RotIdeal m →
    θ_run (Cert.RotIdeal.defs (F := Ideal)) (onTc (τ := Cert.RotIdeal.τ) (Cert.RotIdeal.main (F := Ideal))) ⟨m, fun _ => 0, g⟩ (fun r => (∀ c : Dev Cert.RotIdeal.nD,
      r.2.mem ((c.tc : Thread Cert.RotIdeal.nD Cert.RotIdeal.τ).loc Cert.RotIdeal.main_arg0) = m ((c.tc : Thread Cert.RotIdeal.nD Cert.RotIdeal.τ).loc Cert.RotIdeal.main_arg0)
      ∧ r.2.mem ((c.tc : Thread Cert.RotIdeal.nD Cert.RotIdeal.τ).loc Cert.RotIdeal.main_arg1) = m ((c.tc : Thread Cert.RotIdeal.nD Cert.RotIdeal.τ).loc Cert.RotIdeal.main_arg1))
      ∧ r.2.sem = fun _ => 0)

def quiescent_RotIdeal_pre_finite [hRotIdeal : Cert.RotIdeal.Facts] [hPre_finite : Cert.Pre_finite.Facts] : Prop :=
  ∀ (m : (ℓ : Loc Cert.RotIdeal.nD Cert.RotIdeal.τ Cert.RotIdeal.sig) → Buf (Elt Ideal) ℓ) (g : Dev Cert.RotIdeal.nD → PrngReg), Pre_RotIdeal_finite m →
    θ_run (Cert.RotIdeal.defs (F := Ideal)) (onTc (τ := Cert.RotIdeal.τ) (Cert.RotIdeal.main (F := Ideal))) ⟨m, fun _ => 0, g⟩ (fun r => (∀ c : Dev Cert.RotIdeal.nD,
      r.2.mem ((c.tc : Thread Cert.RotIdeal.nD Cert.RotIdeal.τ).loc Cert.RotIdeal.main_arg0) = m ((c.tc : Thread Cert.RotIdeal.nD Cert.RotIdeal.τ).loc Cert.RotIdeal.main_arg0)
      ∧ r.2.mem ((c.tc : Thread Cert.RotIdeal.nD Cert.RotIdeal.τ).loc Cert.RotIdeal.main_arg1) = m ((c.tc : Thread Cert.RotIdeal.nD Cert.RotIdeal.τ).loc Cert.RotIdeal.main_arg1))
      ∧ r.2.sem = fun _ => 0)

def quiescent_RotRefIdeal [hRotRefIdeal : Cert.RotRefIdeal.Facts] : Prop :=
  ∀ (m : (ℓ : Loc Cert.RotRefIdeal.nD Cert.RotRefIdeal.τ Cert.RotRefIdeal.sig) → Buf (Elt Ideal) ℓ) (g : Dev Cert.RotRefIdeal.nD → PrngReg), Pre_RotRefIdeal m →
    θ_run (Cert.RotRefIdeal.defs (F := Ideal)) (onTc (τ := Cert.RotRefIdeal.τ) (Cert.RotRefIdeal.main (F := Ideal))) ⟨m, fun _ => 0, g⟩ (fun r => (∀ c : Dev Cert.RotRefIdeal.nD,
      r.2.mem ((c.tc : Thread Cert.RotRefIdeal.nD Cert.RotRefIdeal.τ).loc Cert.RotRefIdeal.main_arg0) = m ((c.tc : Thread Cert.RotRefIdeal.nD Cert.RotRefIdeal.τ).loc Cert.RotRefIdeal.main_arg0)
      ∧ r.2.mem ((c.tc : Thread Cert.RotRefIdeal.nD Cert.RotRefIdeal.τ).loc Cert.RotRefIdeal.main_arg1) = m ((c.tc : Thread Cert.RotRefIdeal.nD Cert.RotRefIdeal.τ).loc Cert.RotRefIdeal.main_arg1))
      ∧ r.2.sem = fun _ => 0)

def quiescent_RotRefIdeal_pre_finite [hRotRefIdeal : Cert.RotRefIdeal.Facts] [hPre_finite : Cert.Pre_finite.Facts] : Prop :=
  ∀ (m : (ℓ : Loc Cert.RotRefIdeal.nD Cert.RotRefIdeal.τ Cert.RotRefIdeal.sig) → Buf (Elt Ideal) ℓ) (g : Dev Cert.RotRefIdeal.nD → PrngReg), Pre_RotRefIdeal_finite m →
    θ_run (Cert.RotRefIdeal.defs (F := Ideal)) (onTc (τ := Cert.RotRefIdeal.τ) (Cert.RotRefIdeal.main (F := Ideal))) ⟨m, fun _ => 0, g⟩ (fun r => (∀ c : Dev Cert.RotRefIdeal.nD,
      r.2.mem ((c.tc : Thread Cert.RotRefIdeal.nD Cert.RotRefIdeal.τ).loc Cert.RotRefIdeal.main_arg0) = m ((c.tc : Thread Cert.RotRefIdeal.nD Cert.RotRefIdeal.τ).loc Cert.RotRefIdeal.main_arg0)
      ∧ r.2.mem ((c.tc : Thread Cert.RotRefIdeal.nD Cert.RotRefIdeal.τ).loc Cert.RotRefIdeal.main_arg1) = m ((c.tc : Thread Cert.RotRefIdeal.nD Cert.RotRefIdeal.τ).loc Cert.RotRefIdeal.main_arg1))
      ∧ r.2.sem = fun _ => 0)

def quiescent_Dec [hDec : Cert.Dec.Facts] : Prop :=
  ∀ (m : (ℓ : Loc Cert.Dec.nD Cert.Dec.τ Cert.Dec.sig) → Buf (Elt Bits) ℓ) (g : Dev Cert.Dec.nD → PrngReg), Pre_Dec m →
    θ_run (Cert.Dec.defs (F := Bits)) (onTc (τ := Cert.Dec.τ) (Cert.Dec.main (F := Bits))) ⟨m, fun _ => 0, g⟩ (fun r => (∀ c : Dev Cert.Dec.nD,
      r.2.mem ((c.tc : Thread Cert.Dec.nD Cert.Dec.τ).loc Cert.Dec.main_arg0) = m ((c.tc : Thread Cert.Dec.nD Cert.Dec.τ).loc Cert.Dec.main_arg0)
      ∧ r.2.mem ((c.tc : Thread Cert.Dec.nD Cert.Dec.τ).loc Cert.Dec.main_arg1) = m ((c.tc : Thread Cert.Dec.nD Cert.Dec.τ).loc Cert.Dec.main_arg1))
      ∧ r.2.sem = fun _ => 0)

def quiescent_DecIdeal [hDecIdeal : Cert.DecIdeal.Facts] : Prop :=
  ∀ (m : (ℓ : Loc Cert.DecIdeal.nD Cert.DecIdeal.τ Cert.DecIdeal.sig) → Buf (Elt Ideal) ℓ) (g : Dev Cert.DecIdeal.nD → PrngReg), Pre_DecIdeal m →
    θ_run (Cert.DecIdeal.defs (F := Ideal)) (onTc (τ := Cert.DecIdeal.τ) (Cert.DecIdeal.main (F := Ideal))) ⟨m, fun _ => 0, g⟩ (fun r => (∀ c : Dev Cert.DecIdeal.nD,
      r.2.mem ((c.tc : Thread Cert.DecIdeal.nD Cert.DecIdeal.τ).loc Cert.DecIdeal.main_arg0) = m ((c.tc : Thread Cert.DecIdeal.nD Cert.DecIdeal.τ).loc Cert.DecIdeal.main_arg0)
      ∧ r.2.mem ((c.tc : Thread Cert.DecIdeal.nD Cert.DecIdeal.τ).loc Cert.DecIdeal.main_arg1) = m ((c.tc : Thread Cert.DecIdeal.nD Cert.DecIdeal.τ).loc Cert.DecIdeal.main_arg1))
      ∧ r.2.sem = fun _ => 0)

def quiescent_DecRefIdeal [hDecRefIdeal : Cert.DecRefIdeal.Facts] : Prop :=
  ∀ (m : (ℓ : Loc Cert.DecRefIdeal.nD Cert.DecRefIdeal.τ Cert.DecRefIdeal.sig) → Buf (Elt Ideal) ℓ) (g : Dev Cert.DecRefIdeal.nD → PrngReg), Pre_DecRefIdeal m →
    θ_run (Cert.DecRefIdeal.defs (F := Ideal)) (onTc (τ := Cert.DecRefIdeal.τ) (Cert.DecRefIdeal.main (F := Ideal))) ⟨m, fun _ => 0, g⟩ (fun r => (∀ c : Dev Cert.DecRefIdeal.nD,
      r.2.mem ((c.tc : Thread Cert.DecRefIdeal.nD Cert.DecRefIdeal.τ).loc Cert.DecRefIdeal.main_arg0) = m ((c.tc : Thread Cert.DecRefIdeal.nD Cert.DecRefIdeal.τ).loc Cert.DecRefIdeal.main_arg0)
      ∧ r.2.mem ((c.tc : Thread Cert.DecRefIdeal.nD Cert.DecRefIdeal.τ).loc Cert.DecRefIdeal.main_arg1) = m ((c.tc : Thread Cert.DecRefIdeal.nD Cert.DecRefIdeal.τ).loc Cert.DecRefIdeal.main_arg1))
      ∧ r.2.sem = fun _ => 0)

def preserves_Gemm_GemmIdeal : Prop :=
  True

def algebraic_GemmIdeal_GemmRefIdeal [hGemmIdeal : Cert.GemmIdeal.Facts] [hGemmRefIdeal : Cert.GemmRefIdeal.Facts] : Prop :=
  ∀ (m : (ℓ : Loc Cert.GemmIdeal.nD Cert.GemmIdeal.τ Cert.GemmIdeal.sig) → Buf (Elt Ideal) ℓ) (g : Dev Cert.GemmIdeal.nD → PrngReg)
    (m' : (ℓ : Loc Cert.GemmRefIdeal.nD Cert.GemmRefIdeal.τ Cert.GemmRefIdeal.sig) → Buf (Elt Ideal) ℓ) (g' : Dev Cert.GemmRefIdeal.nD → PrngReg), Pre_GemmIdeal m →
    (∀ c : Dev Cert.GemmIdeal.nD,
      m' ((c.tc : Thread Cert.GemmRefIdeal.nD Cert.GemmRefIdeal.τ).loc Cert.GemmRefIdeal.main_arg0) = m ((c.tc : Thread Cert.GemmIdeal.nD Cert.GemmIdeal.τ).loc Cert.GemmIdeal.main_arg0)
      ∧ m' ((c.tc : Thread Cert.GemmRefIdeal.nD Cert.GemmRefIdeal.τ).loc Cert.GemmRefIdeal.main_arg1) = m ((c.tc : Thread Cert.GemmIdeal.nD Cert.GemmIdeal.τ).loc Cert.GemmIdeal.main_arg1)
      ∧ m' ((c.tc : Thread Cert.GemmRefIdeal.nD Cert.GemmRefIdeal.τ).loc Cert.GemmRefIdeal.main_arg2) = m ((c.tc : Thread Cert.GemmIdeal.nD Cert.GemmIdeal.τ).loc Cert.GemmIdeal.main_arg2)
      ∧ m' ((c.tc : Thread Cert.GemmRefIdeal.nD Cert.GemmRefIdeal.τ).loc Cert.GemmRefIdeal.main_arg3) = m ((c.tc : Thread Cert.GemmIdeal.nD Cert.GemmIdeal.τ).loc Cert.GemmIdeal.main_arg3)
      ∧ m' ((c.tc : Thread Cert.GemmRefIdeal.nD Cert.GemmRefIdeal.τ).loc Cert.GemmRefIdeal.main_arg4) = m ((c.tc : Thread Cert.GemmIdeal.nD Cert.GemmIdeal.τ).loc Cert.GemmIdeal.main_arg4)
      ∧ m' ((c.tc : Thread Cert.GemmRefIdeal.nD Cert.GemmRefIdeal.τ).loc Cert.GemmRefIdeal.main_arg5) = m ((c.tc : Thread Cert.GemmIdeal.nD Cert.GemmIdeal.τ).loc Cert.GemmIdeal.main_arg5)) →
    ∃ (v0 : (c : Dev Cert.GemmIdeal.nD) → Buf (Elt Ideal) ((c.tc : Thread Cert.GemmIdeal.nD Cert.GemmIdeal.τ).loc Cert.GemmIdeal.main_v6)),
      θ_run (Cert.GemmIdeal.defs (F := Ideal)) (onTc (τ := Cert.GemmIdeal.τ) (Cert.GemmIdeal.main (F := Ideal))) ⟨m, fun _ => 0, g⟩ (fun r => ∀ c : Dev Cert.GemmIdeal.nD,
          r.2.mem ((c.tc : Thread Cert.GemmIdeal.nD Cert.GemmIdeal.τ).loc Cert.GemmIdeal.main_v6) = v0 c
          ∧ r.2.mem ((c.tc : Thread Cert.GemmIdeal.nD Cert.GemmIdeal.τ).loc Cert.GemmIdeal.main_arg0) = m ((c.tc : Thread Cert.GemmIdeal.nD Cert.GemmIdeal.τ).loc Cert.GemmIdeal.main_arg0)
          ∧ r.2.mem ((c.tc : Thread Cert.GemmIdeal.nD Cert.GemmIdeal.τ).loc Cert.GemmIdeal.main_arg1) = m ((c.tc : Thread Cert.GemmIdeal.nD Cert.GemmIdeal.τ).loc Cert.GemmIdeal.main_arg1)
          ∧ r.2.mem ((c.tc : Thread Cert.GemmIdeal.nD Cert.GemmIdeal.τ).loc Cert.GemmIdeal.main_arg2) = m ((c.tc : Thread Cert.GemmIdeal.nD Cert.GemmIdeal.τ).loc Cert.GemmIdeal.main_arg2)
          ∧ r.2.mem ((c.tc : Thread Cert.GemmIdeal.nD Cert.GemmIdeal.τ).loc Cert.GemmIdeal.main_arg3) = m ((c.tc : Thread Cert.GemmIdeal.nD Cert.GemmIdeal.τ).loc Cert.GemmIdeal.main_arg3)
          ∧ r.2.mem ((c.tc : Thread Cert.GemmIdeal.nD Cert.GemmIdeal.τ).loc Cert.GemmIdeal.main_arg4) = m ((c.tc : Thread Cert.GemmIdeal.nD Cert.GemmIdeal.τ).loc Cert.GemmIdeal.main_arg4)
          ∧ r.2.mem ((c.tc : Thread Cert.GemmIdeal.nD Cert.GemmIdeal.τ).loc Cert.GemmIdeal.main_arg5) = m ((c.tc : Thread Cert.GemmIdeal.nD Cert.GemmIdeal.τ).loc Cert.GemmIdeal.main_arg5))
      ∧ θ_run (Cert.GemmRefIdeal.defs (F := Ideal)) (onTc (τ := Cert.GemmRefIdeal.τ) (Cert.GemmRefIdeal.main (F := Ideal))) ⟨m', fun _ => 0, g'⟩ (fun r => ∀ c : Dev Cert.GemmRefIdeal.nD,
          r.2.mem ((c.tc : Thread Cert.GemmRefIdeal.nD Cert.GemmRefIdeal.τ).loc Cert.GemmRefIdeal.main_v4) = v0 c
          ∧ r.2.mem ((c.tc : Thread Cert.GemmRefIdeal.nD Cert.GemmRefIdeal.τ).loc Cert.GemmRefIdeal.main_arg0) = m' ((c.tc : Thread Cert.GemmRefIdeal.nD Cert.GemmRefIdeal.τ).loc Cert.GemmRefIdeal.main_arg0)
          ∧ r.2.mem ((c.tc : Thread Cert.GemmRefIdeal.nD Cert.GemmRefIdeal.τ).loc Cert.GemmRefIdeal.main_arg1) = m' ((c.tc : Thread Cert.GemmRefIdeal.nD Cert.GemmRefIdeal.τ).loc Cert.GemmRefIdeal.main_arg1)
          ∧ r.2.mem ((c.tc : Thread Cert.GemmRefIdeal.nD Cert.GemmRefIdeal.τ).loc Cert.GemmRefIdeal.main_arg2) = m' ((c.tc : Thread Cert.GemmRefIdeal.nD Cert.GemmRefIdeal.τ).loc Cert.GemmRefIdeal.main_arg2)
          ∧ r.2.mem ((c.tc : Thread Cert.GemmRefIdeal.nD Cert.GemmRefIdeal.τ).loc Cert.GemmRefIdeal.main_arg3) = m' ((c.tc : Thread Cert.GemmRefIdeal.nD Cert.GemmRefIdeal.τ).loc Cert.GemmRefIdeal.main_arg3)
          ∧ r.2.mem ((c.tc : Thread Cert.GemmRefIdeal.nD Cert.GemmRefIdeal.τ).loc Cert.GemmRefIdeal.main_arg4) = m' ((c.tc : Thread Cert.GemmRefIdeal.nD Cert.GemmRefIdeal.τ).loc Cert.GemmRefIdeal.main_arg4)
          ∧ r.2.mem ((c.tc : Thread Cert.GemmRefIdeal.nD Cert.GemmRefIdeal.τ).loc Cert.GemmRefIdeal.main_arg5) = m' ((c.tc : Thread Cert.GemmRefIdeal.nD Cert.GemmRefIdeal.τ).loc Cert.GemmRefIdeal.main_arg5))

def preserves_Rot_RotIdeal : Prop :=
  True

def algebraic_RotIdeal_RotRefIdeal_pre_finite [hRotIdeal : Cert.RotIdeal.Facts] [hRotRefIdeal : Cert.RotRefIdeal.Facts] [hPre_finite : Cert.Pre_finite.Facts] : Prop :=
  ∀ (m : (ℓ : Loc Cert.RotIdeal.nD Cert.RotIdeal.τ Cert.RotIdeal.sig) → Buf (Elt Ideal) ℓ) (g : Dev Cert.RotIdeal.nD → PrngReg)
    (m' : (ℓ : Loc Cert.RotRefIdeal.nD Cert.RotRefIdeal.τ Cert.RotRefIdeal.sig) → Buf (Elt Ideal) ℓ) (g' : Dev Cert.RotRefIdeal.nD → PrngReg), Pre_RotIdeal_finite m →
    (∀ c : Dev Cert.RotIdeal.nD,
      m' ((c.tc : Thread Cert.RotRefIdeal.nD Cert.RotRefIdeal.τ).loc Cert.RotRefIdeal.main_arg0) = m ((c.tc : Thread Cert.RotIdeal.nD Cert.RotIdeal.τ).loc Cert.RotIdeal.main_arg0)
      ∧ m' ((c.tc : Thread Cert.RotRefIdeal.nD Cert.RotRefIdeal.τ).loc Cert.RotRefIdeal.main_arg1) = m ((c.tc : Thread Cert.RotIdeal.nD Cert.RotIdeal.τ).loc Cert.RotIdeal.main_arg1)) →
    ∃ (v0 : (c : Dev Cert.RotIdeal.nD) → Buf (Elt Ideal) ((c.tc : Thread Cert.RotIdeal.nD Cert.RotIdeal.τ).loc Cert.RotIdeal.main_v27_0)) (v1 : (c : Dev Cert.RotIdeal.nD) → Buf (Elt Ideal) ((c.tc : Thread Cert.RotIdeal.nD Cert.RotIdeal.τ).loc Cert.RotIdeal.main_v27_1)) (v2 : (c : Dev Cert.RotIdeal.nD) → Buf (Elt Ideal) ((c.tc : Thread Cert.RotIdeal.nD Cert.RotIdeal.τ).loc Cert.RotIdeal.main_v27_2)) (v3 : (c : Dev Cert.RotIdeal.nD) → Buf (Elt Ideal) ((c.tc : Thread Cert.RotIdeal.nD Cert.RotIdeal.τ).loc Cert.RotIdeal.main_v27_3)),
      θ_run (Cert.RotIdeal.defs (F := Ideal)) (onTc (τ := Cert.RotIdeal.τ) (Cert.RotIdeal.main (F := Ideal))) ⟨m, fun _ => 0, g⟩ (fun r => ∀ c : Dev Cert.RotIdeal.nD,
          r.2.mem ((c.tc : Thread Cert.RotIdeal.nD Cert.RotIdeal.τ).loc Cert.RotIdeal.main_v27_0) = v0 c
          ∧ r.2.mem ((c.tc : Thread Cert.RotIdeal.nD Cert.RotIdeal.τ).loc Cert.RotIdeal.main_v27_1) = v1 c
          ∧ r.2.mem ((c.tc : Thread Cert.RotIdeal.nD Cert.RotIdeal.τ).loc Cert.RotIdeal.main_v27_2) = v2 c
          ∧ r.2.mem ((c.tc : Thread Cert.RotIdeal.nD Cert.RotIdeal.τ).loc Cert.RotIdeal.main_v27_3) = v3 c
          ∧ r.2.mem ((c.tc : Thread Cert.RotIdeal.nD Cert.RotIdeal.τ).loc Cert.RotIdeal.main_arg0) = m ((c.tc : Thread Cert.RotIdeal.nD Cert.RotIdeal.τ).loc Cert.RotIdeal.main_arg0)
          ∧ r.2.mem ((c.tc : Thread Cert.RotIdeal.nD Cert.RotIdeal.τ).loc Cert.RotIdeal.main_arg1) = m ((c.tc : Thread Cert.RotIdeal.nD Cert.RotIdeal.τ).loc Cert.RotIdeal.main_arg1))
      ∧ θ_run (Cert.RotRefIdeal.defs (F := Ideal)) (onTc (τ := Cert.RotRefIdeal.τ) (Cert.RotRefIdeal.main (F := Ideal))) ⟨m', fun _ => 0, g'⟩ (fun r => ∀ c : Dev Cert.RotRefIdeal.nD,
          r.2.mem ((c.tc : Thread Cert.RotRefIdeal.nD Cert.RotRefIdeal.τ).loc Cert.RotRefIdeal.main_v19_0) = v0 c
          ∧ r.2.mem ((c.tc : Thread Cert.RotRefIdeal.nD Cert.RotRefIdeal.τ).loc Cert.RotRefIdeal.main_v19_1) = v1 c
          ∧ r.2.mem ((c.tc : Thread Cert.RotRefIdeal.nD Cert.RotRefIdeal.τ).loc Cert.RotRefIdeal.main_v19_2) = v2 c
          ∧ r.2.mem ((c.tc : Thread Cert.RotRefIdeal.nD Cert.RotRefIdeal.τ).loc Cert.RotRefIdeal.main_v19_3) = v3 c
          ∧ r.2.mem ((c.tc : Thread Cert.RotRefIdeal.nD Cert.RotRefIdeal.τ).loc Cert.RotRefIdeal.main_arg0) = m' ((c.tc : Thread Cert.RotRefIdeal.nD Cert.RotRefIdeal.τ).loc Cert.RotRefIdeal.main_arg0)
          ∧ r.2.mem ((c.tc : Thread Cert.RotRefIdeal.nD Cert.RotRefIdeal.τ).loc Cert.RotRefIdeal.main_arg1) = m' ((c.tc : Thread Cert.RotRefIdeal.nD Cert.RotRefIdeal.τ).loc Cert.RotRefIdeal.main_arg1))

def preserves_Dec_DecIdeal : Prop :=
  True

def algebraic_DecIdeal_DecRefIdeal [hDecIdeal : Cert.DecIdeal.Facts] [hDecRefIdeal : Cert.DecRefIdeal.Facts] : Prop :=
  ∀ (m : (ℓ : Loc Cert.DecIdeal.nD Cert.DecIdeal.τ Cert.DecIdeal.sig) → Buf (Elt Ideal) ℓ) (g : Dev Cert.DecIdeal.nD → PrngReg)
    (m' : (ℓ : Loc Cert.DecRefIdeal.nD Cert.DecRefIdeal.τ Cert.DecRefIdeal.sig) → Buf (Elt Ideal) ℓ) (g' : Dev Cert.DecRefIdeal.nD → PrngReg), Pre_DecIdeal m →
    (∀ c : Dev Cert.DecIdeal.nD,
      m' ((c.tc : Thread Cert.DecRefIdeal.nD Cert.DecRefIdeal.τ).loc Cert.DecRefIdeal.main_arg0) = m ((c.tc : Thread Cert.DecIdeal.nD Cert.DecIdeal.τ).loc Cert.DecIdeal.main_arg0)
      ∧ m' ((c.tc : Thread Cert.DecRefIdeal.nD Cert.DecRefIdeal.τ).loc Cert.DecRefIdeal.main_arg1) = m ((c.tc : Thread Cert.DecIdeal.nD Cert.DecIdeal.τ).loc Cert.DecIdeal.main_arg1)) →
    ∃ (v0 : (c : Dev Cert.DecIdeal.nD) → Buf (Elt Ideal) ((c.tc : Thread Cert.DecIdeal.nD Cert.DecIdeal.τ).loc Cert.DecIdeal.main_v0_0)) (v1 : (c : Dev Cert.DecIdeal.nD) → Buf (Elt Ideal) ((c.tc : Thread Cert.DecIdeal.nD Cert.DecIdeal.τ).loc Cert.DecIdeal.main_v0_1)),
      θ_run (Cert.DecIdeal.defs (F := Ideal)) (onTc (τ := Cert.DecIdeal.τ) (Cert.DecIdeal.main (F := Ideal))) ⟨m, fun _ => 0, g⟩ (fun r => ∀ c : Dev Cert.DecIdeal.nD,
          r.2.mem ((c.tc : Thread Cert.DecIdeal.nD Cert.DecIdeal.τ).loc Cert.DecIdeal.main_v0_0) = v0 c
          ∧ r.2.mem ((c.tc : Thread Cert.DecIdeal.nD Cert.DecIdeal.τ).loc Cert.DecIdeal.main_v0_1) = v1 c
          ∧ r.2.mem ((c.tc : Thread Cert.DecIdeal.nD Cert.DecIdeal.τ).loc Cert.DecIdeal.main_arg0) = m ((c.tc : Thread Cert.DecIdeal.nD Cert.DecIdeal.τ).loc Cert.DecIdeal.main_arg0)
          ∧ r.2.mem ((c.tc : Thread Cert.DecIdeal.nD Cert.DecIdeal.τ).loc Cert.DecIdeal.main_arg1) = m ((c.tc : Thread Cert.DecIdeal.nD Cert.DecIdeal.τ).loc Cert.DecIdeal.main_arg1))
      ∧ θ_run (Cert.DecRefIdeal.defs (F := Ideal)) (onTc (τ := Cert.DecRefIdeal.τ) (Cert.DecRefIdeal.main (F := Ideal))) ⟨m', fun _ => 0, g'⟩ (fun r => ∀ c : Dev Cert.DecRefIdeal.nD,
          r.2.mem ((c.tc : Thread Cert.DecRefIdeal.nD Cert.DecRefIdeal.τ).loc Cert.DecRefIdeal.main_v0_0) = v0 c
          ∧ r.2.mem ((c.tc : Thread Cert.DecRefIdeal.nD Cert.DecRefIdeal.τ).loc Cert.DecRefIdeal.main_v0_1) = v1 c
          ∧ r.2.mem ((c.tc : Thread Cert.DecRefIdeal.nD Cert.DecRefIdeal.τ).loc Cert.DecRefIdeal.main_arg0) = m' ((c.tc : Thread Cert.DecRefIdeal.nD Cert.DecRefIdeal.τ).loc Cert.DecRefIdeal.main_arg0)
          ∧ r.2.mem ((c.tc : Thread Cert.DecRefIdeal.nD Cert.DecRefIdeal.τ).loc Cert.DecRefIdeal.main_arg1) = m' ((c.tc : Thread Cert.DecRefIdeal.nD Cert.DecRefIdeal.τ).loc Cert.DecRefIdeal.main_arg1))

def Claim : Prop :=
  ∃ (hGemm : Cert.Gemm.Facts) (hGemmIdeal : Cert.GemmIdeal.Facts) (hGemmRefIdeal : Cert.GemmRefIdeal.Facts) (hRot : Cert.Rot.Facts) (hRotIdeal : Cert.RotIdeal.Facts) (hRotRefIdeal : Cert.RotRefIdeal.Facts) (hDec : Cert.Dec.Facts) (hDecIdeal : Cert.DecIdeal.Facts) (hDecRefIdeal : Cert.DecRefIdeal.Facts) (hPre_finite : Cert.Pre_finite.Facts),
    quiescent_Gemm (hGemm := hGemm)
    ∧ quiescent_GemmIdeal (hGemmIdeal := hGemmIdeal)
    ∧ quiescent_GemmRefIdeal (hGemmRefIdeal := hGemmRefIdeal)
    ∧ quiescent_Rot (hRot := hRot)
    ∧ quiescent_RotIdeal (hRotIdeal := hRotIdeal)
    ∧ quiescent_RotIdeal_pre_finite (hRotIdeal := hRotIdeal) (hPre_finite := hPre_finite)
    ∧ quiescent_RotRefIdeal (hRotRefIdeal := hRotRefIdeal)
    ∧ quiescent_RotRefIdeal_pre_finite (hRotRefIdeal := hRotRefIdeal) (hPre_finite := hPre_finite)
    ∧ quiescent_Dec (hDec := hDec)
    ∧ quiescent_DecIdeal (hDecIdeal := hDecIdeal)
    ∧ quiescent_DecRefIdeal (hDecRefIdeal := hDecRefIdeal)
    ∧ preserves_Gemm_GemmIdeal
    ∧ algebraic_GemmIdeal_GemmRefIdeal (hGemmIdeal := hGemmIdeal) (hGemmRefIdeal := hGemmRefIdeal)
    ∧ preserves_Rot_RotIdeal
    ∧ algebraic_RotIdeal_RotRefIdeal_pre_finite (hRotIdeal := hRotIdeal) (hRotRefIdeal := hRotRefIdeal) (hPre_finite := hPre_finite)
    ∧ preserves_Dec_DecIdeal
    ∧ algebraic_DecIdeal_DecRefIdeal (hDecIdeal := hDecIdeal) (hDecRefIdeal := hDecRefIdeal)
-- ==== Pre_finite.lean ====
abbrev S6144x24576 : Shape := ⟨2, ![6144, 24576]⟩
abbrev S12x12 : Shape := ⟨2, ![12, 12]⟩
abbrev S_ : Shape := ⟨0, ![]⟩

class Facts : Prop where
  bitsLt_bf16_f32 : FTy.bits .bf16 < FTy.bits .f32
  bcast_S_S6144x24576 : S_.BroadcastsInDim S6144x24576 (![] : Fin 0 → Fin S6144x24576.rank)
  reducesTo_S6144x24576_S_d0_1 : S6144x24576.ReducesTo [0, 1] S_
  h_S_ : 0 < S_.numel
  bcast_S_S12x12 : S_.BroadcastsInDim S12x12 (![] : Fin 0 → Fin S12x12.rank)
  reducesTo_S12x12_S_d0_1 : S12x12.ReducesTo [0, 1] S_

variable [Facts]

def fn {F : FTy → Type} [FloatOps F] (main_arg0 : FVec F S6144x24576 .bf16) (main_arg1 : FVec F S12x12 .f32) : IVec S_ 1 :=
  let main_v0 : FVec F S6144x24576 .f32 := (extf .f32 · bitsLt_bf16_f32) main_arg0
  let main_v1 : FVec F S6144x24576 .f32 := Host.absf main_v0
  let main_cst : FVec F S_ .f32 := constant S_ .f32 0x7F800000#32
  let main_v2 : FVec F S6144x24576 .f32 := broadcastInDim S6144x24576 ![] bcast_S_S6144x24576 main_cst
  let main_v3 : IVec S6144x24576 1 := cmpf .olt main_v1 main_v2
  let main_c : IVec S_ 1 := constantI S_ 1 1#1
  let main_v4 : IVec S_ 1 := (fun x v => Host.reduce IntOp.andi x v reducesTo_S6144x24576_S_d0_1 h_S_) main_v3 main_c
  let main_v5 : FVec F S12x12 .f32 := Host.absf main_arg1
  let main_cst_0 : FVec F S_ .f32 := constant S_ .f32 0x7F800000#32
  let main_v6 : FVec F S12x12 .f32 := broadcastInDim S12x12 ![] bcast_S_S12x12 main_cst_0
  let main_v7 : IVec S12x12 1 := cmpf .olt main_v5 main_v6
  let main_c_1 : IVec S_ 1 := constantI S_ 1 1#1
  let main_v8 : IVec S_ 1 := (fun x v => Host.reduce IntOp.andi x v reducesTo_S12x12_S_d0_1 h_S_) main_v7 main_c_1
  let main_v9 : IVec S_ 1 := andi main_v4 main_v8
  main_v9
-- ==== Gemm.lean ====
abbrev S6144x24576 : Shape := ⟨2, ![6144, 24576]⟩
abbrev S3072x24576 : Shape := ⟨2, ![3072, 24576]⟩
abbrev S6144 : Shape := ⟨1, ![6144]⟩
abbrev S3072 : Shape := ⟨1, ![3072]⟩
abbrev S6144x1 : Shape := ⟨2, ![6144, 1]⟩
abbrev S6144x128 : Shape := ⟨2, ![6144, 128]⟩
abbrev S1x3072 : Shape := ⟨2, ![1, 3072]⟩
abbrev S6144x3072 : Shape := ⟨2, ![6144, 3072]⟩
abbrev S1024x3072 : Shape := ⟨2, ![1024, 3072]⟩
abbrev S1024x128 : Shape := ⟨2, ![1024, 128]⟩
abbrev S1x1024 : Shape := ⟨2, ![1, 1024]⟩
abbrev S1024x1024 : Shape := ⟨2, ![1024, 1024]⟩
abbrev S1x128 : Shape := ⟨2, ![1, 128]⟩

abbrev nBuf : Space → Nat
  | .hbm => 13
  | .vmem => 15
  | .smem => 0
  | _ => 0

abbrev bufTy : (tb : Table) → Fin (tcTables nBuf tb) → BufTy
  | .hbm, ⟨0, _⟩ => ⟨S6144x24576, .fp8e4m3⟩
  | .hbm, ⟨1, _⟩ => ⟨S3072x24576, .fp8e4m3⟩
  | .hbm, ⟨2, _⟩ => ⟨S6144, .f32⟩
  | .hbm, ⟨3, _⟩ => ⟨S6144, .f32⟩
  | .hbm, ⟨4, _⟩ => ⟨S3072, .f32⟩
  | .hbm, ⟨5, _⟩ => ⟨S3072, .f32⟩
  | .hbm, ⟨6, _⟩ => ⟨S6144x1, .f32⟩
  | .hbm, ⟨7, _⟩ => ⟨S6144x128, .f32⟩
  | .hbm, ⟨8, _⟩ => ⟨S6144x1, .f32⟩
  | .hbm, ⟨9, _⟩ => ⟨S6144x128, .f32⟩
  | .hbm, ⟨10, _⟩ => ⟨S1x3072, .f32⟩
  | .hbm, ⟨11, _⟩ => ⟨S1x3072, .f32⟩
  | .hbm, ⟨12, _⟩ => ⟨S6144x3072, .bf16⟩
  | .local _ .vmem, ⟨0, _⟩ => ⟨S1024x3072, .fp8e4m3⟩
  | .local _ .vmem, ⟨1, _⟩ => ⟨S1024x3072, .fp8e4m3⟩
  | .local _ .vmem, ⟨2, _⟩ => ⟨S1024x3072, .fp8e4m3⟩
  | .local _ .vmem, ⟨3, _⟩ => ⟨S1024x3072, .fp8e4m3⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S6144x24576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![6, 3, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== GemmRefIdeal.lean ====
abbrev S6144x24576 : Shape := ⟨2, ![6144, 24576]⟩
abbrev S3072x24576 : Shape := ⟨2, ![3072, 24576]⟩
abbrev S6144 : Shape := ⟨1, ![6144]⟩
abbrev S3072 : Shape := ⟨1, ![3072]⟩
abbrev S6144x1 : Shape := ⟨2, ![6144, 1]⟩
abbrev S1x3072 : Shape := ⟨2, ![1, 3072]⟩
abbrev S6144x3072 : Shape := ⟨2, ![6144, 3072]⟩
abbrev S6144x12288 : Shape := ⟨2, ![6144, 12288]⟩
abbrev S3072x12288 : Shape := ⟨2, ![3072, 12288]⟩

abbrev nBuf : Space → Nat
  | .hbm => 11
  | .vmem => 7
  | .smem => 0
  | _ => 0

abbrev bufTy : (tb : Table) → Fin (tcTables nBuf tb) → BufTy
  | .hbm, ⟨0, _⟩ => ⟨S6144x24576, .fp8e4m3⟩
  | .hbm, ⟨1, _⟩ => ⟨S3072x24576, .fp8e4m3⟩
  | .hbm, ⟨2, _⟩ => ⟨S6144, .f32⟩
  | .hbm, ⟨3, _⟩ => ⟨S6144, .f32⟩
  | .hbm, ⟨4, _⟩ => ⟨S3072, .f32⟩
  | .hbm, ⟨5, _⟩ => ⟨S3072, .f32⟩
  | .hbm, ⟨6, _⟩ => ⟨S6144x1, .f32⟩
  | .hbm, ⟨7, _⟩ => ⟨S6144x1, .f32⟩
  | .hbm, ⟨8, _⟩ => ⟨S1x3072, .f32⟩
  | .hbm, ⟨9, _⟩ => ⟨S1x3072, .f32⟩
  | .hbm, ⟨10, _⟩ => ⟨S6144x3072, .bf16⟩
  | .local _ .vmem, ⟨0, _⟩ => ⟨S6144x24576, .fp8e4m3⟩
  | .local _ .vmem, ⟨1, _⟩ => ⟨S3072x24576, .fp8e4m3⟩
  | .local _ .vmem, ⟨2, _⟩ => ⟨S6144x1, .f32⟩
  | .local _ .vmem, ⟨3, _⟩ => ⟨S6144x1, .f32⟩
  | .local _ .vmem, ⟨4, _⟩ => ⟨S1x3072, .f32⟩
  | .local _ .vmem, ⟨5, _⟩ => ⟨S1x3072, .f32⟩
  | .local _ .vmem, ⟨6, _⟩ => ⟨S6144x3072, .bf16⟩
  | _, _ => ⟨S6144x24576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x24576 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x24576 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Rot.lean ====
abbrev S6144x24576 : Shape := ⟨2, ![6144, 24576]⟩
abbrev S12x12 : Shape := ⟨2, ![12, 12]⟩
abbrev S3 : Shape := ⟨1, ![3]⟩
abbrev S256x256 : Shape := ⟨2, ![256, 256]⟩
abbrev S_ : Shape := ⟨0, ![]⟩
abbrev S12x4x3 : Shape := ⟨3, ![12, 4, 3]⟩
abbrev S1x1x3 : Shape := ⟨3, ![1, 1, 3]⟩
abbrev S12x4 : Shape := ⟨2, ![12, 4]⟩
abbrev S4 : Shape := ⟨1, ![4]⟩
abbrev S1x4 : Shape := ⟨2, ![1, 4]⟩
abbrev S48 : Shape := ⟨1, ![48]⟩
abbrev S144 : Shape := ⟨1, ![144]⟩
abbrev S6144x128 : Shape := ⟨2, ![6144, 128]⟩
abbrev S32x24576 : Shape := ⟨2, ![32, 24576]⟩
abbrev S32x128 : Shape := ⟨2, ![32, 128]⟩
abbrev S32x32x128 : Shape := ⟨3, ![32, 32, 128]⟩
abbrev S32x256 : Shape := ⟨2, ![32, 256]⟩
abbrev S1 : Shape := ⟨1, ![1]⟩
abbrev S32 : Shape := ⟨1, ![32]⟩
abbrev S32x1 : Shape := ⟨2, ![32, 1]⟩

abbrev nBuf : Space → Nat
  | .hbm => 40
  | .vmem => 16
  | .smem => 2
  | _ => 0

abbrev bufTy : (tb : Table) → Fin (tcTables nBuf tb) → BufTy
  | .hbm, ⟨0, _⟩ => ⟨S6144x24576, .bf16⟩
  | .hbm, ⟨1, _⟩ => ⟨S12x12, .f32⟩
  | .hbm, ⟨2, _⟩ => ⟨S3, .i32⟩
  | .hbm, ⟨3, _⟩ => ⟨S256x256, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S_, .i32⟩
  | .hbm, ⟨14, _⟩ => ⟨S256x256, .i32⟩
  | .hbm, ⟨15, _⟩ => ⟨S256x256, .i32⟩
  | .hbm, ⟨16, _⟩ => ⟨S256x256, .bf16⟩
  | .hbm, ⟨17, _⟩ => ⟨S_, .f32⟩
  | .hbm, ⟨18, _⟩ => ⟨S12x12, .f32⟩
  | .hbm, ⟨19, _⟩ => ⟨S12x12, .i1⟩
  | .hbm, ⟨20, _⟩ => ⟨S12x12, .i32⟩
  | .hbm, ⟨21, _⟩ => ⟨S12x4x3, .i32⟩
  | .hbm, ⟨22, _⟩ => ⟨S1x1x3, .i32⟩
  | .hbm, ⟨23, _⟩ => ⟨S12x4x3, .i32⟩
  | .hbm, ⟨24, _⟩ => ⟨S12x4x3, .i32⟩
  | .hbm, ⟨25, _⟩ => ⟨S_, .i32⟩
  | .hbm, ⟨26, _⟩ => ⟨S12x4, .i32⟩
  | .hbm, ⟨27, _⟩ => ⟨S4, .i32⟩
  | .hbm, ⟨28, _⟩ => ⟨S_, .i32⟩
  | .hbm, ⟨29, _⟩ => ⟨S4, .i32⟩
  | .hbm, ⟨30, _⟩ => ⟨S4, .i32⟩
  | .hbm, ⟨31, _⟩ => ⟨S1x4, .i32⟩
  | .hbm, ⟨32, _⟩ => ⟨S12x4, .i32⟩
  | .hbm, ⟨33, _⟩ => ⟨S12x4, .i32⟩
  | .hbm, ⟨34, _⟩ => ⟨S48, .i32⟩
  | .hbm, ⟨35, _⟩ => ⟨S144, .f32⟩
  | .hbm, ⟨36, _⟩ => ⟨S6144x24576, .i8⟩
  | .hbm, ⟨37, _⟩ => ⟨S6144x24576, .fp8e4m3⟩
  | .hbm, ⟨38, _⟩ => ⟨S6144x128, .f32⟩
  | .hbm, ⟨39, _⟩ => ⟨S6144x128, .f32⟩
  | .local _ .vmem, ⟨0, _⟩ => ⟨S32x24576, .bf16⟩
  | .local _ .vmem, ⟨1, _⟩ => ⟨S32x24576, .bf16⟩
  | .local _ .vmem, ⟨2, _⟩ => ⟨S256x256, .bf16⟩
  | .local _ .vmem, ⟨3, _⟩ => ⟨S32x24576, .i8⟩
  | .local _ .vmem, ⟨4, _⟩ => ⟨S32x24576, .i8⟩
  | .local _ .vmem, ⟨5, _⟩ => ⟨S32x24576, .fp8e4m3⟩
  | .local _ .vmem, ⟨6, _⟩ => ⟨S32x24576, .fp8e4m3⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x24576, .f32⟩
  | .local _ .vmem, ⟨12, _⟩ => ⟨S32x24576, .f32⟩
  | .local _ .vmem, ⟨13, _⟩ => ⟨S32x32x128, .f32⟩
  | .local _ .vmem, ⟨14, _⟩ => ⟨S32x32x128, .f32⟩
  | .local _ .vmem, ⟨15, _⟩ => ⟨S32x32x128, .f32⟩
  | .local _ .smem, ⟨0, _⟩ => ⟨S48, .i32⟩
  | .local _ .smem, ⟨1, _⟩ => ⟨S144, .f32⟩
  | _, _ => ⟨S6144x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27_0 : Ref sig .tc := ⟨.hbm, 36, rfl⟩
abbrev main_v27_1 : Ref sig .tc := ⟨.hbm, 37, rfl⟩
abbrev main_v27_2 : Ref sig .tc := ⟨.hbm, 38, rfl⟩
abbrev main_v27_3 : Ref sig .tc := ⟨.hbm, 39, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![192], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S48 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x24576 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x24576 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x24576 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RotRefIdeal.lean ====
abbrev S6144x24576 : Shape := ⟨2, ![6144, 24576]⟩
abbrev S12x12 : Shape := ⟨2, ![12, 12]⟩
abbrev S6144x12x2048 : Shape := ⟨3, ![6144, 12, 2048]⟩
abbrev S2048x2048 : Shape := ⟨2, ![2048, 2048]⟩
abbrev S_ : Shape := ⟨0, ![]⟩
abbrev S6144x2048x12 : Shape := ⟨3, ![6144, 2048, 12]⟩
abbrev S6144x128 : Shape := ⟨2, ![6144, 128]⟩
abbrev S6144 : Shape := ⟨1, ![6144]⟩
abbrev S6144x1 : Shape := ⟨2, ![6144, 1]⟩

abbrev nBuf : Space → Nat
  | .hbm => 29
  | .vmem => 5
  | .smem => 0
  | _ => 0

abbrev bufTy : (tb : Table) → Fin (tcTables nBuf tb) → BufTy
  | .hbm, ⟨0, _⟩ => ⟨S6144x24576, .bf16⟩
  | .hbm, ⟨1, _⟩ => ⟨S12x12, .f32⟩
  | .hbm, ⟨2, _⟩ => ⟨S6144x24576, .f32⟩
  | .hbm, ⟨3, _⟩ => ⟨S6144x12x2048, .f32⟩
  | .hbm, ⟨4, _⟩ => ⟨S2048x2048, .i32⟩
  | .hbm, ⟨5, _⟩ => ⟨S2048x2048, .i32⟩
  | .hbm, ⟨6, _⟩ => ⟨S2048x2048, .i32⟩
  | .hbm, ⟨7, _⟩ => ⟨S2048x2048, .i32⟩
  | .hbm, ⟨8, _⟩ => ⟨S_, .i32⟩
  | .hbm, ⟨9, _⟩ => ⟨S2048x2048, .i32⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .f32⟩
  | .hbm, ⟨18, _⟩ => ⟨S6144x12x2048, .f32⟩
  | .hbm, ⟨19, _⟩ => ⟨S6144x2048x12, .f32⟩
  | .hbm, ⟨20, _⟩ => ⟨S6144x12x2048, .f32⟩
  | .hbm, ⟨21, _⟩ => ⟨S_, .f32⟩
  | .hbm, ⟨22, _⟩ => ⟨S6144x12x2048, .f32⟩
  | .hbm, ⟨23, _⟩ => ⟨S6144x12x2048, .f32⟩
  | .hbm, ⟨24, _⟩ => ⟨S6144x24576, .f32⟩
  | .hbm, ⟨25, _⟩ => ⟨S6144x24576, .i8⟩
  | .hbm, ⟨26, _⟩ => ⟨S6144x24576, .fp8e4m3⟩
  | .hbm, ⟨27, _⟩ => ⟨S6144x128, .f32⟩
  | .hbm, ⟨28, _⟩ => ⟨S6144x128, .f32⟩
  | .local _ .vmem, ⟨0, _⟩ => ⟨S6144x24576, .f32⟩
  | .local _ .vmem, ⟨1, _⟩ => ⟨S6144x24576, .i8⟩
  | .local _ .vmem, ⟨2, _⟩ => ⟨S6144x24576, .fp8e4m3⟩
  | .local _ .vmem, ⟨3, _⟩ => ⟨S6144x128, .f32⟩
  | .local _ .vmem, ⟨4, _⟩ => ⟨S6144x128, .f32⟩
  | _, _ => ⟨S6144x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev main_v19_2 : Ref sig .tc := ⟨.hbm, 27, rfl⟩
abbrev main_v19_3 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6144x24576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x24576 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x24576 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Dec.lean ====
abbrev S3072x12288 : Shape := ⟨2, ![3072, 12288]⟩
abbrev S3072x192 : Shape := ⟨2, ![3072, 192]⟩
abbrev S3072x24576 : Shape := ⟨2, ![3072, 24576]⟩
abbrev S3072x128 : Shape := ⟨2, ![3072, 128]⟩
abbrev S64x12288 : Shape := ⟨2, ![64, 12288]⟩
abbrev S64x192 : Shape := ⟨2, ![64, 192]⟩
abbrev S64x24576 : Shape := ⟨2, ![64, 24576]⟩
abbrev S64x128 : Shape := ⟨2, ![64, 128]⟩
abbrev S64x1 : Shape := ⟨2, ![64, 1]⟩
abbrev S64 : Shape := ⟨1, ![64]⟩

abbrev nBuf : Space → Nat
  | .hbm => 4
  | .vmem => 8
  | .smem => 0
  | _ => 0

abbrev bufTy : (tb : Table) → Fin (tcTables nBuf tb) → BufTy
  | .hbm, ⟨0, _⟩ => ⟨S3072x12288, .i8⟩
  | .hbm, ⟨1, _⟩ => ⟨S3072x192, .i8⟩
  | .hbm, ⟨2, _⟩ => ⟨S3072x24576, .fp8e4m3⟩
  | .hbm, ⟨3, _⟩ => ⟨S3072x128, .f32⟩
  | .local _ .vmem, ⟨0, _⟩ => ⟨S64x12288, .i8⟩
  | .local _ .vmem, ⟨1, _⟩ => ⟨S64x12288, .i8⟩
  | .local _ .vmem, ⟨2, _⟩ => ⟨S64x192, .i8⟩
  | .local _ .vmem, ⟨3, _⟩ => ⟨S64x192, .i8⟩
  | .local _ .vmem, ⟨4, _⟩ => ⟨S64x24576, .fp8e4m3⟩
  | .local _ .vmem, ⟨5, _⟩ => ⟨S64x24576, .fp8e4m3⟩
  | .local _ .vmem, ⟨6, _⟩ => ⟨S64x128, .f32⟩
  | .local _ .vmem, ⟨7, _⟩ => ⟨S64x128, .f32⟩
  | _, _ => ⟨S3072x12288, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x12288 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x192 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x24576 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DecRefIdeal.lean ====
abbrev S3072x12288 : Shape := ⟨2, ![3072, 12288]⟩
abbrev S3072x192 : Shape := ⟨2, ![3072, 192]⟩
abbrev S3072x24576 : Shape := ⟨2, ![3072, 24576]⟩
abbrev S3072x128 : Shape := ⟨2, ![3072, 128]⟩
abbrev S3072x96 : Shape := ⟨2, ![3072, 96]⟩
abbrev S3072x96x128 : Shape := ⟨3, ![3072, 96, 128]⟩
abbrev S3072x96x1 : Shape := ⟨3, ![3072, 96, 1]⟩
abbrev S3072 : Shape := ⟨1, ![3072]⟩
abbrev S3072x1 : Shape := ⟨2, ![3072, 1]⟩

abbrev nBuf : Space → Nat
  | .hbm => 4
  | .vmem => 4
  | .smem => 0
  | _ => 0

abbrev bufTy : (tb : Table) → Fin (tcTables nBuf tb) → BufTy
  | .hbm, ⟨0, _⟩ => ⟨S3072x12288, .i8⟩
  | .hbm, ⟨1, _⟩ => ⟨S3072x192, .i8⟩
  | .hbm, ⟨2, _⟩ => ⟨S3072x24576, .fp8e4m3⟩
  | .hbm, ⟨3, _⟩ => ⟨S3072x128, .f32⟩
  | .local _ .vmem, ⟨0, _⟩ => ⟨S3072x12288, .i8⟩
  | .local _ .vmem, ⟨1, _⟩ => ⟨S3072x192, .i8⟩
  | .local _ .vmem, ⟨2, _⟩ => ⟨S3072x24576, .fp8e4m3⟩
  | .local _ .vmem, ⟨3, _⟩ => ⟨S3072x128, .f32⟩
  | _, _ => ⟨S3072x12288, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3072x12288 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x24576 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.GemmSpec.lean ====
/-
  WHAT THE PRODUCT IS, said once for the kernel and for its reference: the entry at row `i`, column `j`, over the extended
  reals, of the codes times the weights, corrected by the zero point and scaled.
-/
module

public import Idealize.ShloMosaic.Lib.Pointwise

@[expose] public section

noncomputable section

namespace Cert.GemmSpec

open Idealize.ShloMosaic Idealize.ShloMosaic.Pointwise

/-- `((Σₖ a(i,k)·w(j,k) − zero(i)·colsum(j))·scale(i))·wscale(j)`. -/
def result (a : (⟨2, ![6144, 24576]⟩ : Shape).Idx → EReal) (w : (⟨2, ![3072, 24576]⟩ : Shape).Idx → EReal)
    (scale zero : (⟨1, ![6144]⟩ : Shape).Idx → EReal) (colsum wscale : (⟨1, ![3072]⟩ : Shape).Idx → EReal)
    (i : Fin 6144) (j : Fin 3072) : EReal :=
  (((∑ k : Fin 24576, a (ix2 i k) * w (ix2 j k)) - zero (ix1 i) * colsum (ix1 j)) * scale (ix1 i)) * wscale (ix1 j)

end Cert.GemmSpec
-- ==== Proof.GemmBlock.lean ====
/-
  THE PRODUCT KERNEL'S ONE GRID POINT: what the body leaves in the accumulator and in the output block, at any float
  instance for the accumulator and read at an index over the extended reals for the output block.

  The grid is 6 × 3 × 8: a 1024 × 1024 block of the result is held for 8 points, and each point adds the product of one
  1024 × 3072 panel of codes with one 1024 × 3072 panel of weights. The first of the 8 clears the accumulator, the last
  applies the zero point, the row scale and the column scale and writes the block out in 8 column pieces of width 128.
-/
module

public import proofs.«01_k».proof.Proof.Gen.GemmIdeal.Value
public import Idealize.ShloMosaic.Lib.Pointwise

@[expose] public section

set_option maxRecDepth 16384

noncomputable section

namespace Cert.GemmIdeal.Block

open Cert.GemmIdeal Cert.GemmIdeal.Gen Idealize.ShloMosaic Idealize.ShloMosaic.TcCoe Idealize.SL.Sem
open Idealize.ShloMosaic.Pipeline (Dat)
open Idealize.ShloMosaic.Pointwise

variable {F : FTy → Type} [FloatOps F]

theorem hz : (![0, 0] : Fin 2 → Nat) = fun _ => 0 := funext fun a => by fin_cases a <;> rfl

/-- The cleared accumulator. -/
abbrev zero : Vec F S1024x1024 .f32 := broadcast S1024x1024 (Scalar.ofBits .f32 0x00000000#32)

/-- One point's addition: the accumulator plus the product of the two panels. -/
abbrev step (acc : Vec F S1024x1024 .f32) (a w : Vec F S1024x3072 .fp8e4m3) : Vec F S1024x1024 .f32 :=
  addf acc (matmul dot_S1024x3072_S1024x3072_S1024x1024_1_1_0_0_n_n none a w (constant S1024x1024 .f32 0x00000000#32))

section
variable (c : Dev nD) (i : grid0.Coords) (arg3 : Memref sig .tc .vmem S1024x3072 .fp8e4m3) (harg3 : arg3.IsWhole) (arg4 : Memref sig .tc .vmem S1024x3072 .fp8e4m3) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .f32) (harg10 : arg10.IsWhole)

/-- A run's first point leaves the product of its panels, added to the cleared accumulator. -/
theorem sout_A (hc0 : cond0_0 i) (hc1 : ¬cond0_1 i) (x0 : Vec F S1024x3072 .fp8e4m3) (x1 : Vec F S1024x3072 .fp8e4m3) (x2 : Vec F S1024x128 .f32) (x3 : Vec F S1024x128 .f32) (x4 : Vec F S1x1024 .f32) (x5 : Vec F S1x1024 .f32) :
    sout0_A_0 c i arg3 harg3 arg4 harg4 arg5 harg5 arg6 harg6 arg7 harg7 arg8 harg8 arg9 harg9 arg10 harg10 hc0 hc1 x0 x1 x2 x3 x4 x5 = step zero x0 x1 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x1024) hz, View.readCov_unit_zero (S := S1024x1024) _ hz]
  unfold k0_pay2 k0_pay1
  simp only [View.readAt_eq_ld, harg3.read_unread, harg4.read_unread, View.ld_unit_zero (S := S1024x3072) hz, View.ld_unit_zero (S := S1024x1024) hz, View.ld_unit_zero (S := S1024x128) hz, shapeCast_self]

/-- A middle point adds its product to what the point before left. -/
theorem sout_B (hc0 : ¬cond0_0 i) (hc1 : ¬cond0_1 i) (x0 : Vec F S1024x3072 .fp8e4m3) (x1 : Vec F S1024x3072 .fp8e4m3) (x2 : Vec F S1024x128 .f32) (x3 : Vec F S1024x128 .f32) (x4 : Vec F S1x1024 .f32) (x5 : Vec F S1x1024 .f32) (xs0 : Vec F S1024x1024 .f32) :
    sout0_B_0 c i arg3 harg3 arg4 harg4 arg5 harg5 arg6 harg6 arg7 harg7 arg8 harg8 arg9 harg9 arg10 harg10 hc0 hc1 x0 x1 x2 x3 x4 x5 xs0 = step xs0 x0 x1 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 x5 xs0)]
  unfold kernelRun0_B
  dsimp only
  rw [View.canon_unit_zero (S := S1024x1024) hz]
  unfold k0_pay2
  simp only [View.readAt_eq_ld, harg3.read_unread, harg4.read_unread, harg10.read_unread, View.ld_unit_zero (S := S1024x3072) hz, View.ld_unit_zero (S := S1024x1024) hz, View.ld_unit_zero (S := S1024x128) hz, shapeCast_self]

/-- So does the last point of a run. -/
theorem sout_C (hc0 : ¬cond0_0 i) (hc1 : cond0_1 i) (x0 : Vec F S1024x3072 .fp8e4m3) (x1 : Vec F S1024x3072 .fp8e4m3) (x2 : Vec F S1024x128 .f32) (x3 : Vec F S1024x128 .f32) (x4 : Vec F S1x1024 .f32) (x5 : Vec F S1x1024 .f32) (xs0 : Vec F S1024x1024 .f32) :
    sout0_C_0 c i arg3 harg3 arg4 harg4 arg5 harg5 arg6 harg6 arg7 harg7 arg8 harg8 arg9 harg9 arg10 harg10 hc0 hc1 x0 x1 x2 x3 x4 x5 xs0 = step xs0 x0 x1 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero (S := S1024x1024) hz]
  unfold k0_pay2
  simp only [View.readAt_eq_ld, harg3.read_unread, harg4.read_unread, harg10.read_unread, View.ld_unit_zero (S := S1024x3072) hz, View.ld_unit_zero (S := S1024x1024) hz, View.ld_unit_zero (S := S1024x128) hz, shapeCast_self]

end

/-- The output block at row `r`, column `l`: the accumulated product less zero point times column sum, scaled by the
    row's scale and the column's scale. The row's scale and zero point stand in every one of 128 lanes. -/
def outAt (acc : Vec Ideal S1024x1024 .f32) (scale zero : Vec Ideal S1024x128 .f32) (colsum wscale : Vec Ideal S1x1024 .f32) :
    Vec Ideal S1024x1024 .bf16 := fun j =>
  ((acc j - zero (ix2 (j 0) ⟨(j 1).val % 128, Nat.mod_lt _ (by decide)⟩) * colsum (ix2 0 (j 1)))
    * scale (ix2 (j 0) ⟨(j 1).val % 128, Nat.mod_lt _ (by decide)⟩)) * wscale (ix2 0 (j 1))

theorem outAt_apply (acc : Vec Ideal S1024x1024 .f32) (scale zero : Vec Ideal S1024x128 .f32) (colsum wscale : Vec Ideal S1x1024 .f32)
    (r l : Fin 1024) : outAt acc scale zero colsum wscale (ix2 r l)
      = ((acc (ix2 r l) - zero (ix2 r ⟨l.val % 128, Nat.mod_lt _ (by decide)⟩) * colsum (ix2 0 l))
        * scale (ix2 r ⟨l.val % 128, Nat.mod_lt _ (by decide)⟩)) * wscale (ix2 0 l) := rfl

/-- One column piece: the pieces' payload, read at an index of the piece, is `outAt` there. -/
theorem piece (acc : Vec Ideal S1024x1024 .f32) (x2 x3 : Vec Ideal S1024x128 .f32) (x4 x5 : Vec Ideal S1x1024 .f32) (off : Nat)
    (hoff : off % 128 = 0) (inb : ∀ a, (![0, off] : Fin 2 → Nat) a + S1024x128.size a ≤ S1024x1024.size a)
    (inb' : ∀ a, (![0, off] : Fin 2 → Nat) a + S1x128.size a ≤ S1x1024.size a) (x : S1024x128.Idx) :
    k0_pay3 (F := Ideal) (fun j => acc ((Rect.unit (s := S1024x1024) ![0, off] S1024x128.size inb).toLoadRect.idx j)) x3
        (fun j => x4 ((Rect.unit (s := S1x1024) ![0, off] S1x128.size inb').toLoadRect.idx j)) x2
        (fun j => x5 ((Rect.unit (s := S1x1024) ![0, off] S1x128.size inb').toLoadRect.idx j)) x
      = outAt acc x2 x3 x4 x5 ((Rect.unit (s := S1024x1024) ![0, off] S1024x128.size inb).emb x) := by
  have hr : ∀ j : S1x128.Idx, (Rect.unit (s := S1x1024) ![0, off] S1x128.size inb').toLoadRect.idx j
      = (ix2 (n0 := 1) (n1 := 1024) 0 ⟨off + (j 1).val, by have := inb' 1; have := (j 1).isLt; simp at *; omega⟩) := fun j => by
    funext a; apply Fin.ext
    match a with
    | ⟨0, _⟩ => show 0 + 1 * (j 0).val = 0; have : (j 0).val < 1 := (j 0).isLt; omega
    | ⟨1, _⟩ => show off + 1 * (j 1).val = off + (j 1).val; omega
  have hx : (Rect.unit (s := S1024x1024) ![0, off] S1024x128.size inb).emb x
      = (ix2 (n0 := 1024) (n1 := 1024) (x 0) ⟨off + (x 1).val, by have := inb 1; have := (x 1).isLt; simp at *; omega⟩) := by
    funext a; apply Fin.ext
    match a with
    | ⟨0, _⟩ => show 0 + 1 * (x 0).val = (x 0).val; omega
    | ⟨1, _⟩ => show off + 1 * (x 1).val = off + (x 1).val; omega
  have hl : (⟨(off + (x 1).val) % 128, Nat.mod_lt _ (by decide)⟩ : Fin 128) = x 1 := by
    apply Fin.ext; show (off + (x 1).val) % 128 = (x 1).val
    have : (x 1).val < 128 := (x 1).isLt; omega
  have hx' : ∀ j, (Rect.unit (s := S1024x1024) ![0, off] S1024x128.size inb).toLoadRect.idx j = (Rect.unit (s := S1024x1024) ![0, off] S1024x128.size inb).emb j := fun j => rfl
  simp only [hr, hx', hx]
  unfold outAt
  idx_vars x
  pointwise [k0_pay3]
  simp only [hl]
  rw [hx]

section
variable (c : Dev nD) (i : grid0.Coords) (arg3 : Memref sig .tc .vmem S1024x3072 .fp8e4m3) (harg3 : arg3.IsWhole) (arg4 : Memref sig .tc .vmem S1024x3072 .fp8e4m3) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .f32) (harg10 : arg10.IsWhole)

/-- The last point of a run writes the block out: its 8 column pieces are the pieces of `outAt`. -/
theorem out_C (hc0 : ¬cond0_0 i) (hc1 : cond0_1 i) (x0 : Vec Ideal S1024x3072 .fp8e4m3) (x1 : Vec Ideal S1024x3072 .fp8e4m3) (x2 : Vec Ideal S1024x128 .f32) (x3 : Vec Ideal S1024x128 .f32) (x4 : Vec Ideal S1x1024 .f32) (x5 : Vec Ideal S1x1024 .f32) (xs0 : Vec Ideal S1024x1024 .f32) :
    out0_C_6 c i arg3 harg3 arg4 harg4 arg5 harg5 arg6 harg6 arg7 harg7 arg8 harg8 arg9 harg9 arg10 harg10 hc0 hc1 x0 x1 x2 x3 x4 x5 xs0 = outAt (step xs0 x0 x1) x2 x3 x4 x5 := by
  have hcov := cover0_C_6 (F := Ideal) c i arg3 harg3 arg4 harg4 arg5 harg5 arg6 harg6 arg7 harg7 arg8 harg8 arg9 harg9 arg10 harg10 hc0 hc1 x0 x1 x2 x3 x4 x5 xs0
  unfold out0_C_6
  rw [View.read_writes_eq_canon _ _ _ hcov]
  funext y
  refine View.canon_apply_of_pieces _ _ ?_ y (hcov y)
  unfold kernelRun0_C
  dsimp only
  sl_unfold_words
  unfold k0_pay2
  simp only [View.readCov_eq_canon', View.canon_unit_zero (S := S1024x1024) hz, View.readAt_eq_ld, harg3.read_unread, harg4.read_unread, harg5.read_unread, harg6.read_unread, harg7.read_unread, harg8.read_unread, harg10.read_unread, View.ld_unit_zero (S := S1024x3072) hz, View.ld_unit_zero (S := S1024x1024) hz, View.ld_unit_zero (S := S1024x128) hz, shapeCast_self]
  intro p hp
  simp only [List.mem_cons, List.not_mem_nil, or_false] at hp
  rcases hp with rfl | rfl | rfl | rfl | rfl | rfl | rfl | rfl
  · intro x; exact piece _ x2 x3 x4 x5 896 (by decide) _ inb_S1x1024_S1x128_0_896 x
  · intro x; exact piece _ x2 x3 x4 x5 768 (by decide) _ inb_S1x1024_S1x128_0_768 x
  · intro x; exact piece _ x2 x3 x4 x5 640 (by decide) _ inb_S1x1024_S1x128_0_640 x
  · intro x; exact piece _ x2 x3 x4 x5 512 (by decide) _ inb_S1x1024_S1x128_0_512 x
  · intro x; exact piece _ x2 x3 x4 x5 384 (by decide) _ inb_S1x1024_S1x128_0_384 x
  · intro x; exact piece _ x2 x3 x4 x5 256 (by decide) _ inb_S1x1024_S1x128_0_256 x
  · intro x; exact piece _ x2 x3 x4 x5 128 (by decide) _ inb_S1x1024_S1x128_0_128 x
  · intro x; exact piece _ x2 x3 x4 x5 0 (by decide) _ inb_S1x1024_S1x128_0_0 x

end

end Cert.GemmIdeal.Block
-- ==== Proof.GemmArray.lean ====
/-
  THE PRODUCT KERNEL'S RESULT ARRAY over the extended reals: at row `i`, column `j` it ends holding
  `((Σₖ a(i,k)·w(j,k) − zero(i)·colsum(j))·scale(i))·w_scale(j)`, the sum over all 24576 positions.

  A block's accumulator is the sum of its 8 panels' products, panel `s` holding the positions 3072·s … 3072·s + 3071;
  8 panels of 3072 positions are the 24576 positions, in order.
-/
module

public import proofs.«01_k».proof.Proof.GemmSpec
public import proofs.«01_k».proof.Proof.GemmBlock

@[expose] public section

set_option maxRecDepth 16384

noncomputable section

namespace Cert.GemmIdeal.Block

open Cert.GemmIdeal Cert.GemmIdeal.Gen Cert.GemmIdeal.Value Idealize.ShloMosaic Idealize.ShloMosaic.TcCoe Idealize.SL.Sem
open Idealize.ShloMosaic.Pipeline (Dat)
open Idealize.ShloMosaic.Pointwise

variable (m : (ℓ : Loc nD τ sig) → Buf (Elt Ideal) ℓ) (ρ : Dev nD → PrngReg)

/-- The codes, the weights, the row scales, the zero points, the column sums, the column scales, as launched. -/
abbrev A (c : Dev nD) : Vec Ideal S6144x24576 .fp8e4m3 := m ((c : Thread nD τ).loc main_arg0)
abbrev W (c : Dev nD) : Vec Ideal S3072x24576 .fp8e4m3 := m ((c : Thread nD τ).loc main_arg1)
abbrev scl (c : Dev nD) : Vec Ideal S6144 .f32 := m ((c : Thread nD τ).loc main_arg2)
abbrev zro (c : Dev nD) : Vec Ideal S6144 .f32 := m ((c : Thread nD τ).loc main_arg3)
abbrev csm (c : Dev nD) : Vec Ideal S3072 .f32 := m ((c : Thread nD τ).loc main_arg4)
abbrev wsc (c : Dev nD) : Vec Ideal S3072 .f32 := m ((c : Thread nD τ).loc main_arg5)

/-! ## The host lines before the region -/

theorem V_scale (c : Dev nD) (r : Fin 6144) (l : Fin 128) :
    (V m c main_v1 : Vec Ideal S6144x128 .f32) (ix2 r l) = scl m c (ix1 r) := by
  have e : (V m c main_v1 : Vec Ideal S6144x128 .f32) = broadcastInDim S6144x128 ![0, 1] bcast_S6144x1_S6144x128_0_1 (broadcastInDim S6144x1 ![0] bcast_S6144_S6144x1_0 (scl m c)) := by
    unfold_abbrev_sides
    after_results
    try rfl
  rw [e]
  pointwise

theorem V_zero (c : Dev nD) (r : Fin 6144) (l : Fin 128) :
    (V m c main_v3 : Vec Ideal S6144x128 .f32) (ix2 r l) = zro m c (ix1 r) := by
  have e : (V m c main_v3 : Vec Ideal S6144x128 .f32) = broadcastInDim S6144x128 ![0, 1] bcast_S6144x1_S6144x128_0_1 (broadcastInDim S6144x1 ![0] bcast_S6144_S6144x1_0 (zro m c)) := by
    unfold_abbrev_sides
    after_results
    try rfl
  rw [e]
  pointwise

theorem V_colsum (c : Dev nD) (l : Fin 3072) :
    (V m c main_v4 : Vec Ideal S1x3072 .f32) (ix2 0 l) = csm m c (ix1 l) := by
  have e : (V m c main_v4 : Vec Ideal S1x3072 .f32) = shapeCast S1x3072 (csm m c) shapeCasts_S3072_S1x3072 := by
    unfold_abbrev_sides
    after_results
    try rfl
  rw [e]
  pointwise

theorem V_wscale (c : Dev nD) (l : Fin 3072) :
    (V m c main_v5 : Vec Ideal S1x3072 .f32) (ix2 0 l) = wsc m c (ix1 l) := by
  have e : (V m c main_v5 : Vec Ideal S1x3072 .f32) = shapeCast S1x3072 (wsc m c) shapeCasts_S3072_S1x3072 := by
    unfold_abbrev_sides
    after_results
    try rfl
  rw [e]
  pointwise

/-! ## The blocks a point reads, by their place in the arrays -/

theorem idx0 : ∀ t : Fin cfg0.N, win0_0.index t (0 : Fin 2) = t.val / 24 ∧ win0_0.index t (1 : Fin 2) = t.val % 8 :=
  (by decide +kernel : ∀ t : Fin grid0.N, _)
theorem idx1 : ∀ t : Fin cfg0.N, win0_1.index t (0 : Fin 2) = t.val / 8 % 3 ∧ win0_1.index t (1 : Fin 2) = t.val % 8 :=
  (by decide +kernel : ∀ t : Fin grid0.N, _)
theorem idx2 : ∀ t : Fin cfg0.N, win0_2.index t (0 : Fin 2) = t.val / 24 ∧ win0_2.index t (1 : Fin 2) = 0 :=
  (by decide +kernel : ∀ t : Fin grid0.N, _)
theorem idx3 : ∀ t : Fin cfg0.N, win0_3.index t (0 : Fin 2) = t.val / 24 ∧ win0_3.index t (1 : Fin 2) = 0 :=
  (by decide +kernel : ∀ t : Fin grid0.N, _)
theorem idx4 : ∀ t : Fin cfg0.N, win0_4.index t (0 : Fin 2) = 0 ∧ win0_4.index t (1 : Fin 2) = t.val / 8 % 3 :=
  (by decide +kernel : ∀ t : Fin grid0.N, _)
theorem idx5 : ∀ t : Fin cfg0.N, win0_5.index t (0 : Fin 2) = 0 ∧ win0_5.index t (1 : Fin 2) = t.val / 8 % 3 :=
  (by decide +kernel : ∀ t : Fin grid0.N, _)

/-- An array read at a pair of naturals, zero outside it: block arithmetic then needs no bounds. -/
def at2 {n k : Nat} (x : (⟨2, ![n, k]⟩ : Shape).Idx → EReal) (i j : Nat) : EReal :=
  if h : i < n ∧ j < k then x (ix2 ⟨i, h.1⟩ ⟨j, h.2⟩) else 0

theorem at2_of {n k : Nat} (x : (⟨2, ![n, k]⟩ : Shape).Idx → EReal) (i : Fin n) (j : Fin k) : at2 x i.val j.val = x (ix2 i j) :=
  dif_pos ⟨i.isLt, j.isLt⟩

theorem blk0 (c : Dev nD) (t : Fin cfg0.N) (r : Fin 1024) (k : Fin 3072) :
    (iblk m c 0 t : Vec Ideal S1024x3072 .fp8e4m3) (ix2 r k) = at2 (A m c) (t.val / 24 * 1024 + r.val) (t.val % 8 * 3072 + k.val) := by
  obtain ⟨e0, e1⟩ := idx0 t
  have hN : t.val < 144 := lt_of_lt_of_eq t.isLt N_0
  unfold iblk
  rw [View.read_apply]
  show V m c main_arg0 _ = _
  rw [V_main_arg0, at2, dif_pos ⟨by omega, by omega⟩]
  congr 1
  funext a; apply Fin.ext
  match a with
  | ⟨0, _⟩ => show win0_0.index t 0 * 1024 + 1 * r.val = t.val / 24 * 1024 + r.val; rw [e0]; omega
  | ⟨1, _⟩ => show win0_0.index t 1 * 3072 + 1 * k.val = t.val % 8 * 3072 + k.val; rw [e1]; omega

theorem blk1 (c : Dev nD) (t : Fin cfg0.N) (r : Fin 1024) (k : Fin 3072) :
    (iblk m c 1 t : Vec Ideal S1024x3072 .fp8e4m3) (ix2 r k) = at2 (W m c) (t.val / 8 % 3 * 1024 + r.val) (t.val % 8 * 3072 + k.val) := by
  obtain ⟨e0, e1⟩ := idx1 t
  have hN : t.val < 144 := lt_of_lt_of_eq t.isLt N_0
  unfold iblk
  rw [View.read_apply]
  show V m c main_arg1 _ = _
  rw [V_main_arg1, at2, dif_pos ⟨by omega, by omega⟩]
  congr 1
  funext a; apply Fin.ext
  match a with
  | ⟨0, _⟩ => show win0_1.index t 0 * 1024 + 1 * r.val = t.val / 8 % 3 * 1024 + r.val; rw [e0]; omega
  | ⟨1, _⟩ => show win0_1.index t 1 * 3072 + 1 * k.val = t.val % 8 * 3072 + k.val; rw [e1]; omega

theorem blk2 (c : Dev nD) (t : Fin cfg0.N) (r : Fin 1024) (l : Fin 128) (i : Fin 6144) (hi : t.val / 24 * 1024 + r.val = i.val) :
    (iblk m c 2 t : Vec Ideal S1024x128 .f32) (ix2 r l) = scl m c (ix1 i) := by
  obtain ⟨e0, e1⟩ := idx2 t
  rw [← V_scale m c i l]
  unfold iblk
  rw [View.read_apply]
  show V m c main_v1 _ = _
  congr 1
  funext a; apply Fin.ext
  match a with
  | ⟨0, _⟩ => show win0_2.index t 0 * 1024 + 1 * r.val = i.val; rw [e0]; omega
  | ⟨1, _⟩ => show win0_2.index t 1 * 128 + 1 * l.val = l.val; rw [e1]; omega

theorem blk3 (c : Dev nD) (t : Fin cfg0.N) (r : Fin 1024) (l : Fin 128) (i : Fin 6144) (hi : t.val / 24 * 1024 + r.val = i.val) :
    (iblk m c 3 t : Vec Ideal S1024x128 .f32) (ix2 r l) = zro m c (ix1 i) := by
  obtain ⟨e0, e1⟩ := idx3 t
  rw [← V_zero m c i l]
  unfold iblk
  rw [View.read_apply]
  show V m c main_v3 _ = _
  congr 1
  funext a; apply Fin.ext
  match a with
  | ⟨0, _⟩ => show win0_3.index t 0 * 1024 + 1 * r.val = i.val; rw [e0]; omega
  | ⟨1, _⟩ => show win0_3.index t 1 * 128 + 1 * l.val = l.val; rw [e1]; omega

theorem blk4 (c : Dev nD) (t : Fin cfg0.N) (l : Fin 1024) (j : Fin 3072) (hj : t.val / 8 % 3 * 1024 + l.val = j.val) :
    (iblk m c 4 t : Vec Ideal S1x1024 .f32) (ix2 0 l) = csm m c (ix1 j) := by
  obtain ⟨e0, e1⟩ := idx4 t
  rw [← V_colsum m c j]
  unfold iblk
  rw [View.read_apply]
  show V m c main_v4 _ = _
  congr 1
  funext a; apply Fin.ext
  match a with
  | ⟨0, _⟩ => show win0_4.index t 0 * 1 + 1 * 0 = 0; rw [e0]
  | ⟨1, _⟩ => show win0_4.index t 1 * 1024 + 1 * l.val = j.val; rw [e1]; omega

theorem blk5 (c : Dev nD) (t : Fin cfg0.N) (l : Fin 1024) (j : Fin 3072) (hj : t.val / 8 % 3 * 1024 + l.val = j.val) :
    (iblk m c 5 t : Vec Ideal S1x1024 .f32) (ix2 0 l) = wsc m c (ix1 j) := by
  obtain ⟨e0, e1⟩ := idx5 t
  rw [← V_wscale m c j]
  unfold iblk
  rw [View.read_apply]
  show V m c main_v5 _ = _
  congr 1
  funext a; apply Fin.ext
  match a with
  | ⟨0, _⟩ => show win0_5.index t 0 * 1 + 1 * 0 = 0; rw [e0]
  | ⟨1, _⟩ => show win0_5.index t 1 * 1024 + 1 * l.val = j.val; rw [e1]; omega

/-! ## The accumulator -/

/-- What point `n` adds at place (r, l) of its block. -/
def addend (c : Dev nD) (n : Nat) (i : S1024x1024.Idx) : EReal :=
  ∑ k : Fin 3072, at2 (A m c) (n / 24 * 1024 + (i 0).val) (n % 8 * 3072 + k.val) * at2 (W m c) (n / 8 % 3 * 1024 + (i 1).val) (n % 8 * 3072 + k.val)

theorem step_apply (c : Dev nD) (t : Fin cfg0.N) (acc : Vec Ideal S1024x1024 .f32) (i : S1024x1024.Idx) :
    step acc (iblk m c 0 t) (iblk m c 1 t) i = acc i + addend m c t.val i := by
  idx_vars i
  unfold step addend
  pointwise
  refine congrArg _ (Finset.sum_congr rfl fun k _ => ?_)
  rw [blk0, blk1]

theorem zero_apply (i : S1024x1024.Idx) : (zero : Vec Ideal S1024x1024 .f32) i = 0 := Ideal.ofBits_zero_f32

theorem sc_first (c : Dev nD) (n : Nat) (h : n < cfg0.N) (h0 : n % 8 = 0) (acc : Vec Ideal S1024x1024 .f32) :
    scAt0_0 m c n h acc = step zero (iblk m c 0 ⟨n, h⟩) (iblk m c 1 ⟨n, h⟩) := by
  unfold scAt0_0
  rw [dif_pos h0, dif_neg (by omega)]
  exact sout_A ..

theorem sc_later (c : Dev nD) (n : Nat) (h : n < cfg0.N) (h0 : ¬n % 8 = 0) (acc : Vec Ideal S1024x1024 .f32) :
    scAt0_0 m c n h acc = step acc (iblk m c 0 ⟨n, h⟩) (iblk m c 1 ⟨n, h⟩) := by
  unfold scAt0_0
  rw [dif_neg h0]
  by_cases h1 : n % 8 = 7
  · rw [dif_pos h1]; exact sout_C ..
  · rw [dif_neg h1]; exact sout_B ..

/-- After point `t` the accumulator is the sum of its run's addends so far. -/
theorem acc_eq (c : Dev nD) (t : Fin cfg0.N) (i : S1024x1024.Idx) :
    (outsAt0 m c t.val t.isLt).2 i = ∑ s ∈ Finset.range (t.val % 8 + 1), addend m c (8 * (t.val / 8) + s) i := by
  rw [soutsAt0_0_eq]
  rw [Pipeline.accAt_add_apply _ _ (fun _ => 0) (addend m c) (8 * (t.val / 8)) 7 ?_ ?_ (t.val % 8) (by omega) _ i, zero_add]
  · intro h i
    rw [sc_first m c _ h (by omega), step_apply, zero_apply]
  · intro n h acc i h1 h2
    rw [sc_later m c n h (by omega), step_apply]

/-- At a run's last point the accumulator is the sum over all 24576 positions. -/
theorem acc_last (c : Dev nD) (t : Fin cfg0.N) (h7 : t.val % 8 = 7) (r l : Fin 1024) (i : Fin 6144) (j : Fin 3072)
    (hi : t.val / 24 * 1024 + r.val = i.val) (hj : t.val / 8 % 3 * 1024 + l.val = j.val) :
    (outsAt0 m c t.val t.isLt).2 (ix2 r l) = ∑ k : Fin 24576, A m c (ix2 i k) * W m c (ix2 j k) := by
  rw [acc_eq, h7, Fin.sum_univ_tiles 8 3072 rfl, Finset.sum_range]
  refine Finset.sum_congr rfl fun s _ => ?_
  unfold addend
  refine Finset.sum_congr rfl fun k _ => ?_
  have hs : s.val < 8 := s.isLt
  have e1 : (8 * (t.val / 8) + s.val) / 24 = t.val / 24 := by omega
  have e2 : (8 * (t.val / 8) + s.val) % 8 = s.val := by omega
  have e3 : (8 * (t.val / 8) + s.val) / 8 % 3 = t.val / 8 % 3 := by omega
  rw [e1, e2, e3]
  show at2 _ (t.val / 24 * 1024 + r.val) _ * at2 _ (t.val / 8 % 3 * 1024 + l.val) _ = _
  rw [hi, hj, ← at2_of (A m c), ← at2_of (W m c)]

/-! ## The array -/

/-- What a run's last point leaves in its block of the result. -/
theorem block_last (c : Dev nD) (t : Fin cfg0.N) (h7 : t.val % 8 = 7) (r l : Fin 1024) (i : Fin 6144) (j : Fin 3072)
    (hi : t.val / 24 * 1024 + r.val = i.val) (hj : t.val / 8 % 3 * 1024 + l.val = j.val) :
    (outsAt0 m c t.val t.isLt).1 (ix2 r l) = GemmSpec.result (A m c) (W m c) (scl m c) (zro m c) (csm m c) (wsc m c) i j := by
  have h2 := acc_last m c t h7 r l i j hi hj
  rw [outsAt0_C m c t (by omega) h7] at h2 ⊢
  dsimp only at h2 ⊢
  rw [sout_C] at h2
  rw [out_C, outAt_apply]
  unfold GemmSpec.result
  rw [h2, blk3 m c t r _ i hi, blk4 m c t l j hj, blk2 m c t r _ i hi, blk5 m c t l j hj]

/-- The result array after the run. -/
theorem G6_apply (c : Dev nD) (i : Fin 6144) (j : Fin 3072) :
    (G6 m c : Vec Ideal S6144x3072 .bf16) (ix2 i j) = GemmSpec.result (A m c) (W m c) (scl m c) (zro m c) (csm m c) (wsc m c) i j := by
  have hi := i.isLt
  have hj := j.isLt
  have hp : pt6Of (ix2 i j) = 8 * (3 * (i.val / 1024) + j.val / 1024) + 7 := by
    show 8 * (3 * (i.val / 1024 - 0) + 1 * (j.val / 1024 - 0)) + 7 = _
    omega
  have hlt : pt6Of (ix2 i j) < cfg0.N := by rw [hp, show cfg0.N = 144 from N_0]; omega
  unfold G6
  rw [dif_pos hlt, ← outsAt0_sweep m c _ hlt]
  have hloc : loc6Of (ix2 i j) = ix2 ⟨i.val % 1024, Nat.mod_lt _ (by decide)⟩ ⟨j.val % 1024, Nat.mod_lt _ (by decide)⟩ := by
    funext a; apply Fin.ext
    match a with
    | ⟨0, _⟩ => rfl
    | ⟨1, _⟩ => rfl
  rw [hloc]
  exact block_last m c ⟨_, hlt⟩ (by show pt6Of (ix2 i j) % 8 = 7; rw [hp]; omega) _ _ i j
    (by show pt6Of (ix2 i j) / 24 * 1024 + i.val % 1024 = i.val; rw [hp]; omega)
    (by show pt6Of (ix2 i j) / 8 % 3 * 1024 + j.val % 1024 = j.val; rw [hp]; omega)

end Cert.GemmIdeal.Block
-- ==== Proof.GemmRefValue.lean ====
/-
  THE REFERENCE OF THE PRODUCT: its one block is the whole of every array, so its result is the plain formula of the
  launched arrays, read here at an index over the extended reals. Its two half products, of the first and of the last
  12288 positions, add up to the sum over all 24576.
-/
module

public import proofs.«01_k».proof.Proof.Gen.GemmRefIdeal.Value
public import proofs.«01_k».proof.Proof.GemmSpec

@[expose] public section

set_option maxRecDepth 16384

noncomputable section

namespace Cert.GemmRefIdeal.Block

open Cert.GemmRefIdeal Cert.GemmRefIdeal.Gen Cert.GemmRefIdeal.Value Idealize.ShloMosaic Idealize.ShloMosaic.TcCoe Idealize.SL.Sem
open Idealize.ShloMosaic.Pipeline (Dat)
open Idealize.ShloMosaic.Pointwise

theorem hz : (![0, 0] : Fin 2 → Nat) = fun _ => 0 := funext fun a => by fin_cases a <;> rfl

section
variable {F : FTy → Type} [FloatOps F]
variable (m : (ℓ : Loc nD τ sig) → Buf (Elt F) ℓ)

abbrev t0 : Fin cfg0.N := ⟨0, by rw [show cfg0.N = 1 from N_0]; decide⟩

/-! ## Each window's one block is its whole array -/

theorem blk0 (c : Dev nD) : (iblk m c 0 t0 : Vec F S6144x24576 .fp8e4m3) = m ((c : Thread nD τ).loc main_arg0) := by
  have hz' : (fun a => win0_0.index t0 a * main_arg0.ty.shape.size a) = fun _ => 0 := funext fun a => by fin_cases a <;> decide +kernel
  refine Eq.trans (Memref.read_access_unit_zero (Elt F) main_arg0 hz' (fun a => by rw [congrFun hz' a]; simp) (V m c main_arg0)) ?_
  exact V_main_arg0 m c

theorem blk1 (c : Dev nD) : (iblk m c 1 t0 : Vec F S3072x24576 .fp8e4m3) = m ((c : Thread nD τ).loc main_arg1) := by
  have hz' : (fun a => win0_1.index t0 a * main_arg1.ty.shape.size a) = fun _ => 0 := funext fun a => by fin_cases a <;> decide +kernel
  refine Eq.trans (Memref.read_access_unit_zero (Elt F) main_arg1 hz' (fun a => by rw [congrFun hz' a]; simp) (V m c main_arg1)) ?_
  exact V_main_arg1 m c

theorem blk2 (c : Dev nD) : (iblk m c 2 t0 : Vec F S6144x1 .f32) = V m c main_v0 := by
  have hz' : (fun a => win0_2.index t0 a * main_v0.ty.shape.size a) = fun _ => 0 := funext fun a => by fin_cases a <;> decide +kernel
  exact (Memref.read_access_unit_zero (Elt F) main_v0 hz' (fun a => by rw [congrFun hz' a]; simp) (V m c main_v0))

theorem blk3 (c : Dev nD) : (iblk m c 3 t0 : Vec F S6144x1 .f32) = V m c main_v1 := by
  have hz' : (fun a => win0_3.index t0 a * main_v1.ty.shape.size a) = fun _ => 0 := funext fun a => by fin_cases a <;> decide +kernel
  exact (Memref.read_access_unit_zero (Elt F) main_v1 hz' (fun a => by rw [congrFun hz' a]; simp) (V m c main_v1))

theorem blk4 (c : Dev nD) : (iblk m c 4 t0 : Vec F S1x3072 .f32) = V m c main_v2 := by
  have hz' : (fun a => win0_4.index t0 a * main_v2.ty.shape.size a) = fun _ => 0 := funext fun a => by fin_cases a <;> decide +kernel
  exact (Memref.read_access_unit_zero (Elt F) main_v2 hz' (fun a => by rw [congrFun hz' a]; simp) (V m c main_v2))

theorem blk5 (c : Dev nD) : (iblk m c 5 t0 : Vec F S1x3072 .f32) = V m c main_v3 := by
  have hz' : (fun a => win0_5.index t0 a * main_v3.ty.shape.size a) = fun _ => 0 := funext fun a => by fin_cases a <;> decide +kernel
  exact (Memref.read_access_unit_zero (Elt F) main_v3 hz' (fun a => by rw [congrFun hz' a]; simp) (V m c main_v3))

/-- The result array after the run: the body's payload of the whole arrays. -/
theorem arr_eq (c : Dev nD) : (dats m 0 c).arrAt 6 cfg0.N
    = k0_pay1 (m ((c : Thread nD τ).loc main_arg0)) (m ((c : Thread nD τ).loc main_arg1)) (V m c main_v1) (V m c main_v2) (V m c main_v0) (V m c main_v3) := by
  have hz' : (fun a => win0_6.index t0 a * main_v4.ty.shape.size a) = fun _ => 0 := funext fun a => by fin_cases a <;> decide +kernel
  have h := blocks6 m c t0 (by decide +kernel)
  rw [flushed6, blk0, blk1, blk2, blk3, blk4, blk5] at h
  refine (Memref.read_access_unit_zero (Elt F) main_v4 hz' (fun a => by rw [congrFun hz' a]; simp) _).symm.trans (h.trans ?_)
  unfold out0_6
  rw [View.canon_unit_zero (S := S6144x3072) hz]
  simp only [View.ld_unit_zero (S := S6144x24576) hz, View.ld_unit_zero (S := S3072x24576) hz, View.ld_unit_zero (S := S6144x1) hz, View.ld_unit_zero (S := S1x3072) hz]
  rfl

end

variable (m : (ℓ : Loc nD τ sig) → Buf (Elt Ideal) ℓ)

/-! ## The host lines before the region -/

theorem V_scale (c : Dev nD) : (V m c main_v0 : Vec Ideal S6144x1 .f32)
    = broadcastInDim S6144x1 ![0] bcast_S6144_S6144x1_0 (m ((c : Thread nD τ).loc main_arg2) : Vec Ideal S6144 .f32) := by
  unfold_abbrev_sides
  after_results
  try rfl

theorem V_zero (c : Dev nD) : (V m c main_v1 : Vec Ideal S6144x1 .f32)
    = broadcastInDim S6144x1 ![0] bcast_S6144_S6144x1_0 (m ((c : Thread nD τ).loc main_arg3) : Vec Ideal S6144 .f32) := by
  unfold_abbrev_sides
  after_results
  try rfl

theorem V_colsum (c : Dev nD) : (V m c main_v2 : Vec Ideal S1x3072 .f32)
    = broadcastInDim S1x3072 ![1] bcast_S3072_S1x3072_1 (m ((c : Thread nD τ).loc main_arg4) : Vec Ideal S3072 .f32) := by
  unfold_abbrev_sides
  after_results
  try rfl

theorem V_wscale (c : Dev nD) : (V m c main_v3 : Vec Ideal S1x3072 .f32)
    = broadcastInDim S1x3072 ![1] bcast_S3072_S1x3072_1 (m ((c : Thread nD τ).loc main_arg5) : Vec Ideal S3072 .f32) := by
  unfold_abbrev_sides
  after_results
  try rfl

/-- The payload at an index. -/
theorem pay_apply (a : Vec Ideal S6144x24576 .fp8e4m3) (w : Vec Ideal S3072x24576 .fp8e4m3) (scale zero : Vec Ideal S6144 .f32)
    (colsum wscale : Vec Ideal S3072 .f32) (i : Fin 6144) (j : Fin 3072) :
    k0_pay1 a w (broadcastInDim S6144x1 ![0] bcast_S6144_S6144x1_0 zero) (broadcastInDim S1x3072 ![1] bcast_S3072_S1x3072_1 colsum)
        (broadcastInDim S6144x1 ![0] bcast_S6144_S6144x1_0 scale) (broadcastInDim S1x3072 ![1] bcast_S3072_S1x3072_1 wscale) (ix2 i j)
      = GemmSpec.result a w scale zero colsum wscale i j := by
  unfold GemmSpec.result
  rw [Fin.sum_univ_two_halves 12288 12288 rfl]
  pointwise [k0_pay1]

/-- The result array at (i, j). -/
theorem arr_apply (c : Dev nD) (i : Fin 6144) (j : Fin 3072) :
    ((dats m 0 c).arrAt 6 cfg0.N : Vec Ideal S6144x3072 .bf16) (ix2 i j)
      = GemmSpec.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) i j := by
  rw [arr_eq, V_scale, V_zero, V_colsum, V_wscale]
  exact pay_apply _ _ _ _ _ _ i j

end Cert.GemmRefIdeal.Block
-- ==== Proof.GemmEq.lean ====
/-
  THE PRODUCT KERNEL AND ITS REFERENCE END EQUAL over the extended reals, at every input: each result array is
  `GemmSpec.result` of the launched arrays, and the launched arrays are the same.
-/
module

public import proofs.«01_k».proof.Defs
public import proofs.«01_k».proof.Proof.GemmArray
public import proofs.«01_k».proof.Proof.GemmRefValue

@[expose] public section

noncomputable section

namespace Cert.GemmEq

open Idealize.ShloMosaic Idealize.SL.Sem Idealize.ShloMosaic.Pointwise

theorem algebraic : Cert.algebraic_GemmIdeal_GemmRefIdeal (hGemmIdeal := Cert.GemmIdeal.Gen.facts) (hGemmRefIdeal := Cert.GemmRefIdeal.Gen.facts) :=
  fun m ρ m' ρ' _ hag => by
    refine ⟨fun c => Cert.GemmIdeal.Value.G6 m c, Cert.GemmIdeal.Value.run m ρ,
      (θ_run _ _ _).mono (fun r h c => ⟨(h c).1.trans ?_, (h c).2⟩) (Cert.GemmRefIdeal.Value.run_blocks m' ρ')⟩
    obtain ⟨e0, e1, e2, e3, e4, e5⟩ := hag c
    funext y
    obtain ⟨i, j, rfl⟩ : ∃ (i : Fin 6144) (j : Fin 3072), y = ix2 i j := ⟨y 0, y 1, eq_ix2 y⟩
    refine (Cert.GemmRefIdeal.Block.arr_apply m' c i j).trans ?_
    rw [e0, e1, e2, e3, e4, e5]
    exact (Cert.GemmIdeal.Block.G6_apply m c i j).symm

end Cert.GemmEq
-- ==== Proof.RotModel.lean ====
/- What one run of the rotation kernel's body stores, written with its loops as loops: the eight parts of each block of a
   row multiplied and combined, the twelve blocks mixed, the running least and greatest, and the quantiser's lines. Each
   list of stores the run leaves is one of these, by the definitions alone. -/
module

public import proofs.«01_k».proof.Proof.Gen.RotIdeal.Frame

@[expose] public section

set_option maxRecDepth 16384

noncomputable section

namespace Cert.RotIdeal.Block

open Cert.RotIdeal Cert.RotIdeal.Gen Idealize.ShloMosaic Idealize.ShloMosaic.TcCoe Idealize.ShloMosaic.Tactic Idealize.SL.Sem

variable {F : FTy → Type} [FloatOps F]

/-! ## The blocks of a row, turned -/

theorem inbU (n : Nat) : ∀ a, (![0, n % 96 * 256] : Fin 2 → Nat) a + S32x256.size a ≤ S32x24576.size a := fun a => by
  match a with
  | ⟨0, _⟩ => show 0 + 32 ≤ 32; omega
  | ⟨1, _⟩ => show n % 96 * 256 + 256 ≤ 24576; omega

/-- The product of block `k`'s eight parts, one under another, with the sign matrix of size 256. -/
def blockProd (h : Vec F S256x256 .bf16) (X : Nat → Vec F S32x256 .bf16) (k : Nat) : FVec F S256x256 .f32 :=
  matmul dot_S256x256_S256x256_S256x256_1_0_0_1_n_n none
    (concatenate S256x256 0 [⟨S32x256, X (k * 8)⟩, ⟨S32x256, X (k * 8 + 1)⟩, ⟨S32x256, X (k * 8 + 2)⟩, ⟨S32x256, X (k * 8 + 3)⟩,
      ⟨S32x256, X (k * 8 + 4)⟩, ⟨S32x256, X (k * 8 + 5)⟩, ⟨S32x256, X (k * 8 + 6)⟩, ⟨S32x256, X (k * 8 + 7)⟩]
      concatenates_S32x256_S32x256_S32x256_S32x256_S32x256_S32x256_S32x256_S32x256_S256x256_d0)
    (shapeCast S256x256 h shapeCasts_S256x256_S256x256) (constant S256x256 .f32 0x00000000#32)

/-- The sums and differences of eight strips. -/
def bfly (t0 t1 t2 t3 t4 t5 t6 t7 : FVec F S32x256 .f32) : Nat → FVec F S32x256 .f32
  | 0 => addf (addf (addf t0 t1) (addf t2 t3)) (addf (addf t4 t5) (addf t6 t7))
  | 1 => addf (addf (subf t0 t1) (subf t2 t3)) (addf (subf t4 t5) (subf t6 t7))
  | 2 => addf (subf (addf t0 t1) (addf t2 t3)) (subf (addf t4 t5) (addf t6 t7))
  | 3 => addf (subf (subf t0 t1) (subf t2 t3)) (subf (subf t4 t5) (subf t6 t7))
  | 4 => subf (addf (addf t0 t1) (addf t2 t3)) (addf (addf t4 t5) (addf t6 t7))
  | 5 => subf (addf (subf t0 t1) (subf t2 t3)) (addf (subf t4 t5) (subf t6 t7))
  | 6 => subf (subf (addf t0 t1) (addf t2 t3)) (subf (addf t4 t5) (addf t6 t7))
  | _ => subf (subf (subf t0 t1) (subf t2 t3)) (subf (subf t4 t5) (subf t6 t7))

/-- The eight strips of a product, combined. -/
def turn (Q : FVec F S256x256 .f32) (P : Nat) : FVec F S32x256 .f32 :=
  bfly (extractStridedSlice S32x256 ![0, 0] Q slices_S256x256_o0_0_S32x256) (extractStridedSlice S32x256 ![32, 0] Q slices_S256x256_o32_0_S32x256)
    (extractStridedSlice S32x256 ![64, 0] Q slices_S256x256_o64_0_S32x256) (extractStridedSlice S32x256 ![96, 0] Q slices_S256x256_o96_0_S32x256)
    (extractStridedSlice S32x256 ![128, 0] Q slices_S256x256_o128_0_S32x256) (extractStridedSlice S32x256 ![160, 0] Q slices_S256x256_o160_0_S32x256)
    (extractStridedSlice S32x256 ![192, 0] Q slices_S256x256_o192_0_S32x256) (extractStridedSlice S32x256 ![224, 0] Q slices_S256x256_o224_0_S32x256) P

/-- The store of part `n` of a turned row. -/
def uPiece (h : Vec F S256x256 .bf16) (X : Nat → Vec F S32x256 .bf16) (n : Nat) : View.Piece (Elt F) S32x24576 .f32 :=
  ⟨Rect.unit (s := S32x24576) ![0, n % 96 * 256] S32x256.size (inbU n), shapeCast S32x256 (turn (blockProd h X (n / 8)) (n % 8)) shapeCasts_S32x256_S32x256⟩

/-- `f (n-1), …, f 0`: stores in the order the last one first. -/
def lastFirst {α : Type} (f : Nat → α) : Nat → List α
  | 0 => []
  | n + 1 => f n :: lastFirst f n

/-! ## The blocks mixed -/

theorem inbR (k l : Nat) : ∀ a, (![0, k % 12 * 2048 + l % 16 * 128] : Fin 2 → Nat) a + S32x128.size a ≤ S32x24576.size a := fun a => by
  match a with
  | ⟨0, _⟩ => show 0 + 32 ≤ 32; omega
  | ⟨1, _⟩ => show k % 12 * 2048 + l % 16 * 128 + 128 ≤ 24576; omega

/-- The place of chunk `l` of block `k` in a row. -/
abbrev chunkRect (k l : Nat) : Rect S32x24576 := Rect.unit (s := S32x24576) ![0, k % 12 * 2048 + l % 16 * 128] S32x128.size (inbR k l)

/-- Twelve products of a chunk with a number, added from the left. -/
def mix (u : Nat → Vec F S32x128 .f32) (d : Nat → Elt F .f32) : FVec F S32x128 .f32 :=
  addf (addf (addf (addf (addf (addf (addf (addf (addf (addf (addf (mulf (u 0) (broadcast S32x128 (d 0))) (mulf (u 1) (broadcast S32x128 (d 1))))
    (mulf (u 2) (broadcast S32x128 (d 2)))) (mulf (u 3) (broadcast S32x128 (d 3)))) (mulf (u 4) (broadcast S32x128 (d 4))))
    (mulf (u 5) (broadcast S32x128 (d 5)))) (mulf (u 6) (broadcast S32x128 (d 6)))) (mulf (u 7) (broadcast S32x128 (d 7))))
    (mulf (u 8) (broadcast S32x128 (d 8)))) (mulf (u 9) (broadcast S32x128 (d 9)))) (mulf (u 10) (broadcast S32x128 (d 10))))
    (mulf (u 11) (broadcast S32x128 (d 11)))

/-- Chunk `n / 12` of mixed block `n % 12`. -/
def mixed (U : Nat → Nat → Vec F S32x128 .f32) (D : Nat → Elt F .f32) (n : Nat) : FVec F S32x128 .f32 :=
  mix (fun k => U k (n / 12)) (fun k => D (n % 12 * 12 + k))

/-- Its store. -/
def rPiece (R : Nat → FVec F S32x128 .f32) (n : Nat) : View.Piece (Elt F) S32x24576 .f32 :=
  ⟨chunkRect (n % 12) (n / 12), shapeCast S32x128 (R n) shapeCasts_S32x128_S32x128⟩

/-- The running least and greatest after `n` chunks. -/
def runMin (R : Nat → FVec F S32x128 .f32) : Nat → FVec F S32x128 .f32
  | 0 => broadcast S32x128 (Scalar.ofBits .f32 0x7F800000#32)
  | n + 1 => minimumf (runMin R n) (R n)
def runMax (R : Nat → FVec F S32x128 .f32) : Nat → FVec F S32x128 .f32
  | 0 => broadcast S32x128 (Scalar.ofBits .f32 0xFF800000#32)
  | n + 1 => maximumf (runMax R n) (R n)

/-! ## The quantiser -/

/-- The column of least entries, and of greatest entries, times the factor. -/
def mnCol (M : FVec F S32x128 .f32) : FVec F S32x1 .f32 :=
  mulf (shapeCast S32x1 (multiReduction .minimumf [1] S32 M 0x7F800000#32 reduces_S32x128_S32 (.inl rfl) rfl) shapeCasts_S32_S32x1)
    (broadcast S32x1 (Scalar.ofBits .f32 0x3BD105EC#32))
def mxCol (M : FVec F S32x128 .f32) : FVec F S32x1 .f32 :=
  mulf (shapeCast S32x1 (multiReduction .maximumf [1] S32 M 0xFF800000#32 reduces_S32x128_S32 (.inl rfl) rfl) shapeCasts_S32_S32x1)
    (broadcast S32x1 (Scalar.ofBits .f32 0x3BD105EC#32))

/-- The column of scales and that of zero points. -/
def scaleCol (mn mx : FVec F S32x1 .f32) : FVec F S32x1 .f32 :=
  select (cmpf .oeq mx mn) (broadcast S32x1 (Scalar.ofBits .f32 0x3F800000#32))
    (divf (subf mx mn) (broadcast S32x1 (Scalar.ofBits .f32 0x41700000#32)))
def zeroCol (mn s : FVec F S32x1 .f32) : FVec F S32x1 .f32 :=
  roundeven (divf (subf (broadcast S32x1 (Scalar.ofBits .f32 0x00000000#32)) mn) s)

/-- A column at every lane. -/
def wide (s : FVec F S32x1 .f32) : FVec F S32x128 .f32 :=
  broadcastTo S32x128 (shapeCast S32x1 s shapeCasts_S32x1_S32x1) broadcasts_S32x1_S32x128

/-- The column of factors. -/
def factorCol (s : FVec F S32x1 .f32) : FVec F S32x1 .f32 := divf (broadcast S32x1 (Scalar.ofBits .f32 0x3BD105EC#32)) s

/-- A chunk's codes, as numbers, then as the two outputs hold them. -/
def quant (f z : FVec F S32x128 .f32) (r : Vec F S32x128 .f32) : FVec F S32x128 .bf16 :=
  minimumf (broadcast S32x128 (Scalar.sitofp .bf16 15#32)) (maximumf (broadcast S32x128 (Scalar.sitofp .bf16 0#32))
    (truncf .bf16 (addf (roundeven (mulf r f)) z) bitsLt_bf16_f32))
def quant8 (q : FVec F S32x128 .bf16) : FVec F S32x128 .fp8e4m3 := truncf .fp8e4m3 q bitsLt_fp8e4m3_bf16
def quantI (q : FVec F S32x128 .bf16) : IVec S32x128 8 := trunci 8 (fptosi 32 (extf .f32 q bitsLt_bf16_f32)) natLt_8_32

theorem inbC (n : Nat) : ∀ a, (![0, n % 192 * 128] : Fin 2 → Nat) a + S32x128.size a ≤ S32x24576.size a := fun a => by
  match a with
  | ⟨0, _⟩ => show 0 + 32 ≤ 32; omega
  | ⟨1, _⟩ => show n % 192 * 128 + 128 ≤ 24576; omega

abbrev codeRect (n : Nat) : Rect S32x24576 := Rect.unit (s := S32x24576) ![0, n % 192 * 128] S32x128.size (inbC n)

end Cert.RotIdeal.Block
-- ==== Proof.RotRun.lean ====
/- The lists of stores of one run of the rotation kernel's body, as its loops. -/
module

public import proofs.«01_k».proof.Proof.RotModel

@[expose] public section

set_option maxRecDepth 65536

noncomputable section

namespace Cert.RotIdeal.Block

open Cert.RotIdeal Cert.RotIdeal.Gen Idealize.ShloMosaic Idealize.ShloMosaic.TcCoe Idealize.ShloMosaic.Tactic Idealize.SL.Sem

variable {F : FTy → Type} [FloatOps F]
variable (c : Dev nD) (arg2 : Memref sig .tc .smem S144 .f32) (harg2 : arg2.IsWhole) (arg3 : Memref sig .tc .vmem S32x24576 .bf16) (harg3 : arg3.IsWhole)
  (arg4 : Memref sig .tc .vmem S256x256 .bf16) (harg4 : arg4.IsWhole) (arg9 arg10 : Memref sig .tc .vmem S32x24576 .f32)
  (x1 : Vec F S144 .f32) (x2 : Vec F S32x24576 .bf16) (x3 : Vec F S256x256 .bf16)

/-- The sign matrix as the body loads it. -/
def hOf : Vec F S256x256 .bf16 :=
  View.readAt (Elt F) arg4.view (Rect.unit (s := S256x256) ![0, 0] S256x256.size inb_S256x256_S256x256_0_0).toLoadRect (harg4.unread x3)

/-- Part `n` of the rows as the body loads it. -/
def xOf (n : Nat) : Vec F S32x256 .bf16 :=
  View.readAt (Elt F) arg3.view (Rect.unit (s := S32x24576) ![0, n % 96 * 256] S32x256.size (inbU n)).toLoadRect (harg3.unread x2)

theorem inbD (n : Nat) : ∀ a, (![n % 144] : Fin 1 → Nat) a + S1.size a ≤ S144.size a := fun a => by
  match a with
  | ⟨0, _⟩ => show n % 144 + 1 ≤ 144; omega

/-- Number `n` of the small matrix as the body loads it. -/
def dOf (n : Nat) : Elt F .f32 :=
  View.readAt (Elt F) arg2.view (Rect.unit (s := S144) ![n % 144] S1.size (inbD n)).toLoadRect (harg2.unread x1) (Shape.Idx.first (show 0 < S1.numel by decide))

/-- The stores of the turned rows. -/
def uList : List (View.Piece (Elt F) S32x24576 .f32) := lastFirst (uPiece (hOf arg4 harg4 x3) (xOf arg3 harg3 x2)) 96

theorem uList_eq : kernelRun0_A.sl.HS0_96 c arg3 harg3 arg4 harg4 x2 x3 = uList arg3 harg3 arg4 harg4 x2 x3 := by sl_kernel_rfl

/-- A chunk of the turned rows as the body loads it back. -/
def uOf (k l : Nat) : Vec F S32x128 .f32 := arg9.view.readCov (uList arg3 harg3 arg4 harg4 x2 x3) (chunkRect k l).toLoadRect

/-- The mixed chunks. -/
def rOf (n : Nat) : FVec F S32x128 .f32 := mixed (uOf arg3 harg3 arg4 harg4 arg9 x2 x3) (dOf arg2 harg2 x1) n

/-- The stores of the mixed rows. -/
def rList : List (View.Piece (Elt F) S32x24576 .f32) := lastFirst (rPiece (rOf arg2 harg2 arg3 harg3 arg4 harg4 arg9 x1 x2 x3)) 192

theorem rList_eq : kernelRun0_A.sl.HS1_192 c arg2 harg2 arg3 harg3 arg4 harg4 arg9 x1 x2 x3
    = rList arg2 harg2 arg3 harg3 arg4 harg4 arg9 x1 x2 x3 := by sl_kernel_rfl

/-- The scale and zero columns. -/
def mnOf : FVec F S32x1 .f32 := mnCol (runMin (rOf arg2 harg2 arg3 harg3 arg4 harg4 arg9 x1 x2 x3) 192)
def mxOf : FVec F S32x1 .f32 := mxCol (runMax (rOf arg2 harg2 arg3 harg3 arg4 harg4 arg9 x1 x2 x3) 192)
def sOf : FVec F S32x1 .f32 := scaleCol (mnOf arg2 harg2 arg3 harg3 arg4 harg4 arg9 x1 x2 x3) (mxOf arg2 harg2 arg3 harg3 arg4 harg4 arg9 x1 x2 x3)
def zOf : FVec F S32x1 .f32 := zeroCol (mnOf arg2 harg2 arg3 harg3 arg4 harg4 arg9 x1 x2 x3) (sOf arg2 harg2 arg3 harg3 arg4 harg4 arg9 x1 x2 x3)

theorem s_eq : kernelRun0_A.sl.r_876 c arg2 harg2 arg3 harg3 arg4 harg4 arg9 x1 x2 x3 = sOf arg2 harg2 arg3 harg3 arg4 harg4 arg9 x1 x2 x3 := by sl_kernel_rfl
theorem z_eq : kernelRun0_A.sl.r_877 c arg2 harg2 arg3 harg3 arg4 harg4 arg9 x1 x2 x3 = zOf arg2 harg2 arg3 harg3 arg4 harg4 arg9 x1 x2 x3 := by sl_kernel_rfl

/-! ## The outputs -/

/-- Chunk `n`'s codes as numbers, from the mixed row as the body loads it back. -/
def qOf (n : Nat) : FVec F S32x128 .bf16 :=
  quant (wide (factorCol (sOf arg2 harg2 arg3 harg3 arg4 harg4 arg9 x1 x2 x3))) (wide (zOf arg2 harg2 arg3 harg3 arg4 harg4 arg9 x1 x2 x3))
    (arg10.view.readCov (rList arg2 harg2 arg3 harg3 arg4 harg4 arg9 x1 x2 x3) (codeRect n).toLoadRect)

variable (i : grid0.Coords) (arg1 : Memref sig .tc .smem S48 .i32) (harg1 : arg1.IsWhole) (arg5 : Memref sig .tc .vmem S32x24576 .i8) (harg5 : arg5.IsWhole)
  (arg6 : Memref sig .tc .vmem S32x24576 .fp8e4m3) (harg6 : arg6.IsWhole) (arg7 : Memref sig .tc .vmem S32x128 .f32) (harg7 : arg7.IsWhole)
  (arg8 : Memref sig .tc .vmem S32x128 .f32) (harg8 : arg8.IsWhole) (harg9 : arg9.IsWhole) (harg10 : arg10.IsWhole)
  (arg11 : Memref sig .tc .vmem S32x32x128 .f32) (harg11 : arg11.IsWhole) (arg12 : Memref sig .tc .vmem S32x32x128 .f32) (harg12 : arg12.IsWhole)
  (arg13 : Memref sig .tc .vmem S32x32x128 .f32) (harg13 : arg13.IsWhole) (x0 : Vec F S48 .i32)

def cPiece (n : Nat) : View.Piece (Elt F) S32x24576 .i8 := ⟨codeRect n, quantI (qOf arg2 harg2 arg3 harg3 arg4 harg4 arg9 arg10 x1 x2 x3 n)⟩
def aPiece (n : Nat) : View.Piece (Elt F) S32x24576 .fp8e4m3 := ⟨codeRect n, quant8 (qOf arg2 harg2 arg3 harg3 arg4 harg4 arg9 arg10 x1 x2 x3 n)⟩

theorem codes_eq : (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3).1 = lastFirst (cPiece arg2 harg2 arg3 harg3 arg4 harg4 arg9 arg10 x1 x2 x3) 192 := by sl_kernel_rfl
theorem a8_eq : (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3).2.1 = lastFirst (aPiece arg2 harg2 arg3 harg3 arg4 harg4 arg9 arg10 x1 x2 x3) 192 := by sl_kernel_rfl
theorem scale_eq : (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3).2.2.1
    = [⟨Rect.unit (s := S32x128) ![0, 0] S32x128.size inb_S32x128_S32x128_0_0, wide (sOf arg2 harg2 arg3 harg3 arg4 harg4 arg9 x1 x2 x3)⟩] := by sl_kernel_rfl
theorem zero_eq : (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3).2.2.2.1
    = [⟨Rect.unit (s := S32x128) ![0, 0] S32x128.size inb_S32x128_S32x128_0_0, wide (zOf arg2 harg2 arg3 harg3 arg4 harg4 arg9 x1 x2 x3)⟩] := by sl_kernel_rfl

end Cert.RotIdeal.Block
-- ==== Proof.Hadamard.lean ====
/- The sign matrix of Sylvester: its entry at (q, p) is -1 to the number of ones that q and p share. The matrix of
   size 2048 is the product of the one of size 8, over the high digits, and the one of size 256, over the low ones. -/
module

public import Idealize.ShloMosaic.Lib.WordArith
public import Idealize.ShloMosaic.Lib.IdealHost
public import Idealize.ShloMosaic.Lib.Pointwise

@[expose] public section

noncomputable section

namespace Cert.Rotation

open Idealize.ShloMosaic

/-- The word `1 - 2 (popcount (q & p) & 1)`, as both programs compute it. -/
def signWord (q p : Nat) : BitVec 32 :=
  IntOp.subi 1#32 (IntOp.muli 2#32 (IntOp.andi (IntOp.ctpop (IntOp.andi (BitVec.ofNat 32 q) (BitVec.ofNat 32 p))) 1#32))

/-- The entry of the sign matrix, a real number. -/
def sign (q p : Nat) : ℝ := ((signWord q p).toInt : ℝ)

/-- How many ones two numbers below 2³² share. -/
def common (q p : Nat) : Nat := ∑ i ∈ Finset.range 32, (q.testBit i && p.testBit i).toNat

theorem length_filter_range (n : Nat) (f : Nat → Bool) :
    ((List.range n).filter f).length = ∑ i ∈ Finset.range n, (f i).toNat := by
  induction n with
  | zero => rfl
  | succ n ih =>
    rw [List.range_succ, List.filter_append, List.length_append, ih, Finset.sum_range_succ]
    cases h : f n <;> simp [h]

theorem ctpop_common (q p : Nat) :
    (IntOp.ctpop (IntOp.andi (BitVec.ofNat 32 q) (BitVec.ofNat 32 p))).toNat = common q p := by
  rw [WordArith.toNat_ctpop, length_filter_range]
  refine Finset.sum_congr rfl fun i hi => ?_
  have hi' : i < 32 := Finset.mem_range.mp hi
  unfold IntOp.andi
  rw [BitVec.getLsbD_and, BitVec.getLsbD_ofNat, BitVec.getLsbD_ofNat]
  simp [hi']

theorem sign_word_of (w : BitVec 32) :
    ((IntOp.subi 1#32 (IntOp.muli 2#32 (IntOp.andi w 1#32))).toInt : ℝ) = (-1) ^ w.toNat := by
  have h : IntOp.andi w 1#32 = BitVec.ofNat 32 (w.toNat % 2) := by
    apply BitVec.eq_of_toNat_eq
    show (w &&& 1#32).toNat = _
    rw [BitVec.toNat_and, BitVec.toNat_ofNat, BitVec.toNat_ofNat]
    show w.toNat &&& 1 = _
    rw [Nat.and_one_is_mod]; omega
  rw [h]
  generalize w.toNat = n
  have e : ((-1 : ℝ)) ^ n = (-1) ^ (n % 2) := by
    conv_lhs => rw [← Nat.mod_add_div n 2, pow_add, pow_mul, neg_one_sq, one_pow, mul_one]
  rw [e]
  rcases Nat.mod_two_eq_zero_or_one n with e | e
  · rw [e]
    have : (IntOp.subi 1#32 (IntOp.muli 2#32 (BitVec.ofNat 32 0))).toInt = 1 := by decide
    rw [this]; norm_num
  · rw [e]
    have : (IntOp.subi 1#32 (IntOp.muli 2#32 (BitVec.ofNat 32 1))).toInt = -1 := by decide
    rw [this]; norm_num

theorem sign_eq (q p : Nat) : sign q p = (-1) ^ common q p := by
  unfold sign signWord
  rw [sign_word_of, ctpop_common]

theorem sign_symm (q p : Nat) : sign q p = sign p q := by
  have h : common q p = common p q := by
    unfold common
    refine Finset.sum_congr rfl fun i _ => ?_
    rw [Bool.and_comm]
  rw [sign_eq, sign_eq, h]

theorem common_split {P s c i : Nat} (hP : P < 8) (hs : s < 8) (hc : c < 256) (hi : i < 256) :
    common (P * 256 + c) (s * 256 + i) = common P s + common c i := by
  have bit : ∀ (a b n : Nat), b < 256 → (a * 256 + b).testBit n = if n < 8 then b.testBit n else a.testBit (n - 8) := by
    intro a b n hb
    have := Nat.testBit_two_pow_mul_add a (i := 8) (b := b) (by simpa using hb) n
    rw [show (2 : Nat) ^ 8 = 256 by norm_num, Nat.mul_comm] at this
    exact this
  have hi8 : ∀ a n : Nat, a < 8 → 24 ≤ n → a.testBit n = false := by
    intro a n ha hn
    apply Nat.testBit_lt_two_pow
    exact lt_of_lt_of_le ha (le_trans (by norm_num) (Nat.pow_le_pow_right (by norm_num) (show 3 ≤ n by omega)))
  have hi256 : ∀ a n : Nat, a < 256 → 8 ≤ n → a.testBit n = false := by
    intro a n ha hn
    apply Nat.testBit_lt_two_pow
    exact lt_of_lt_of_le ha (le_trans (by norm_num) (Nat.pow_le_pow_right (by norm_num) hn))
  unfold common
  rw [show (32 : Nat) = 8 + 24 by norm_num, Finset.sum_range_add]
  have e1 : ∀ n ∈ Finset.range 8, ((P * 256 + c).testBit n && (s * 256 + i).testBit n).toNat = (c.testBit n && i.testBit n).toNat := by
    intro n hn
    have := Finset.mem_range.mp hn
    rw [bit P c n hc, bit s i n hi, if_pos this, if_pos this]
  have e2 : ∀ n ∈ Finset.range 24, ((P * 256 + c).testBit (8 + n) && (s * 256 + i).testBit (8 + n)).toNat
      = (P.testBit n && s.testBit n).toNat := by
    intro n hn
    rw [bit P c _ hc, bit s i _ hi, if_neg (by omega), if_neg (by omega)]
    simp
  rw [Finset.sum_congr rfl e1, Finset.sum_congr rfl e2]
  have e3 : ∑ n ∈ Finset.range (8 + 24), (c.testBit n && i.testBit n).toNat = ∑ n ∈ Finset.range 8, (c.testBit n && i.testBit n).toNat := by
    rw [Finset.sum_range_add]
    rw [Finset.sum_eq_zero (s := Finset.range 24), add_zero]
    intro n _
    rw [hi256 c (8 + n) hc (by omega)]; rfl
  have e4 : ∑ n ∈ Finset.range (8 + 24), (P.testBit n && s.testBit n).toNat = ∑ n ∈ Finset.range 24, (P.testBit n && s.testBit n).toNat := by
    rw [show 8 + 24 = 24 + 8 by norm_num, Finset.sum_range_add]
    rw [Finset.sum_eq_zero (s := Finset.range 8), add_zero]
    intro n _
    rw [hi8 P (24 + n) hP (by omega)]; rfl
  rw [e3, e4]
  omega

/-- The matrix of size 2048 from those of size 8 and 256. -/
theorem sign_split {P s c i : Nat} (hP : P < 8) (hs : s < 8) (hc : c < 256) (hi : i < 256) :
    sign (P * 256 + c) (s * 256 + i) = sign P s * sign c i := by
  rw [sign_eq, sign_eq, sign_eq, common_split hP hs hc hi, pow_add]

/-- One row of the rotation within a block of 2048: the sum over the block is a sum over its eight parts of 256, each
    part first transformed by the matrix of size 256. -/
theorem sum_split {P c : Nat} (hP : P < 8) (hc : c < 256) (f : Nat → ℝ) :
    ∑ p : Fin 2048, sign (P * 256 + c) p * f p
      = ∑ s : Fin 8, sign P s * ∑ i : Fin 256, f (s * 256 + i) * sign i c := by
  rw [Fin.sum_univ_tiles 8 256 (by norm_num) (fun p : Fin 2048 => sign (P * 256 + c) p * f p)]
  refine Finset.sum_congr rfl fun s _ => ?_
  rw [Finset.mul_sum]
  refine Finset.sum_congr rfl fun i _ => ?_
  have hs := s.isLt
  have hi := i.isLt
  show sign (P * 256 + c) (s.val * 256 + i.val) * f (s.val * 256 + i.val) = _
  rw [sign_split hP hs hc hi, sign_symm c i]
  ring

end Cert.Rotation

end
-- ==== Proof.Rotation.lean ====
/- One row of the rotation over the real numbers, and the orders of summation in which the kernel computes it. -/
module

public import proofs.«01_k».proof.Proof.Hadamard

@[expose] public section

noncomputable section

namespace Cert.Rotation

open Idealize.ShloMosaic

/-- Block `k` of a row after the sign matrix of size 2048, at place `q`. -/
def turned (x : Nat → ℝ) (k q : Nat) : ℝ := ∑ p : Fin 2048, sign q p * x (k * 2048 + p)

/-- The rotated row before its factor: block `j`, place `q`. -/
def rotated (x : Nat → ℝ) (had : Nat → ℝ) (j q : Nat) : ℝ := ∑ k : Fin 12, had (j * 12 + k) * turned x k q

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The kernel's eight sums and differences of the eight parts, in its order. -/
def butterfly (T : Fin 8 → EReal) : Fin 8 → EReal
  | 0 => ((T 0 + T 1) + (T 2 + T 3)) + ((T 4 + T 5) + (T 6 + T 7))
  | 1 => ((T 0 - T 1) + (T 2 - T 3)) + ((T 4 - T 5) + (T 6 - T 7))
  | 2 => ((T 0 + T 1) - (T 2 + T 3)) + ((T 4 + T 5) - (T 6 + T 7))
  | 3 => ((T 0 - T 1) - (T 2 - T 3)) + ((T 4 - T 5) - (T 6 - T 7))
  | 4 => ((T 0 + T 1) + (T 2 + T 3)) - ((T 4 + T 5) + (T 6 + T 7))
  | 5 => ((T 0 - T 1) + (T 2 - T 3)) - ((T 4 - T 5) + (T 6 - T 7))
  | 6 => ((T 0 + T 1) - (T 2 + T 3)) - ((T 4 + T 5) - (T 6 + T 7))
  | 7 => ((T 0 - T 1) - (T 2 - T 3)) - ((T 4 - T 5) - (T 6 - T 7))

theorem butterfly_real (t : Fin 8 → ℝ) (P : Fin 8) :
    butterfly (fun s => (t s : EReal)) P = ((∑ s : Fin 8, sign P s * t s : ℝ) : EReal) := by
  have h : ∀ P s : Fin 8, (signWord P s).toInt
      = ![![1, 1, 1, 1, 1, 1, 1, 1], ![1, -1, 1, -1, 1, -1, 1, -1], ![1, 1, -1, -1, 1, 1, -1, -1],
          ![1, -1, -1, 1, 1, -1, -1, 1], ![1, 1, 1, 1, -1, -1, -1, -1], ![1, -1, 1, -1, -1, 1, -1, 1],
          ![1, 1, -1, -1, -1, -1, 1, 1], ![1, -1, -1, 1, -1, 1, 1, -1]] P s := by decide +kernel
  rw [Fin.sum_univ_eight]
  simp only [sign, h]
  fin_cases P <;> simp only [butterfly, ← EReal.coe_add, ← EReal.coe_sub] <;> rw [EReal.coe_eq_coe_iff]
    <;> simp <;> ring

/-- A part's product with the sign matrix of size 256, and the eight of them combined: block `k` turned. -/
theorem turned_eq (x : Nat → ℝ) (k : Nat) (P : Fin 8) (c : Fin 256) (X H : Fin 8 → Fin 256 → EReal)
    (hX : ∀ s i, X s i = (x (k * 2048 + (s.val * 256 + i.val)) : EReal)) (hH : ∀ s i, H s i = (sign i c : EReal)) :
    butterfly (fun s => ∑ i : Fin 256, X s i * H s i) P = (turned x k (P * 256 + c) : EReal) := by
  have e : ∀ s : Fin 8, ∑ i : Fin 256, X s i * H s i
      = ((∑ i : Fin 256, x (k * 2048 + (s.val * 256 + i.val)) * sign i c : ℝ) : EReal) := by
    intro s
    rw [← coe_sum]
    exact Finset.sum_congr rfl fun i _ => by rw [hX, hH, EReal.coe_mul]
  rw [funext e, butterfly_real]
  unfold turned
  rw [sum_split P.isLt c.isLt (fun p => x (k * 2048 + p))]

/-- Twelve products added from the left. -/
theorem rotated_eq (x had : Nat → ℝ) (j q : Nat) (U D : Fin 12 → EReal)
    (hU : ∀ k, U k = (turned x k q : EReal)) (hD : ∀ k : Fin 12, D k = (had (j * 12 + k) : EReal)) :
    U 0 * D 0 + U 1 * D 1 + U 2 * D 2 + U 3 * D 3 + U 4 * D 4 + U 5 * D 5 + U 6 * D 6 + U 7 * D 7 + U 8 * D 8
      + U 9 * D 9 + U 10 * D 10 + U 11 * D 11 = (rotated x had j q : EReal) := by
  unfold rotated
  rw [← coe_sum]
  have e : ∀ k : Fin 12, ((had (j * 12 + k) * turned x k q : ℝ) : EReal) = U k * D k := by
    intro k; rw [hU, hD, EReal.coe_mul, mul_comm]
  rw [Finset.sum_congr rfl fun k _ => e k]
  simp only [Fin.sum_univ_succ, Fin.sum_univ_zero, add_zero]
  simp only [add_assoc]
  rfl

end Cert.Rotation

end
-- ==== Proof.RotArith.lean ====
/- The rotation kernel's arithmetic read at an index, over the extended reals: the product of a block's eight parts, the sums
   and differences of its strips, and the twelve products of the mixing. -/
module

public import proofs.«01_k».proof.Proof.RotModel
public import proofs.«01_k».proof.Proof.Rotation

@[expose] public section

set_option maxRecDepth 16384

noncomputable section

namespace Cert.RotIdeal.Block

open Cert.RotIdeal Cert.RotIdeal.Gen Idealize.ShloMosaic Idealize.ShloMosaic.TcCoe Idealize.SL.Sem
open Idealize.ShloMosaic.Pointwise Cert.Rotation

/-! ## The arithmetic of a block of the rows -/

set_option maxHeartbeats 2000000 in
theorem prod_apply (h : Vec Ideal S256x256 .bf16) (X : Nat → Vec Ideal S32x256 .bf16) (k s : Nat) (hs : s < 8) (r : Fin 32) (l : Fin 256) (hb) :
    blockProd h X k (ix2 (⟨s * 32 + r.val, hb⟩ : Fin 256) l) = ∑ i : Fin 256, X (k * 8 + s) (ix2 r i) * h (ix2 i l) := by
  have hr := r.isLt
  pointwise [blockProd]
  refine Finset.sum_congr rfl fun i _ => ?_
  congr 1
  have e : ∀ (a b : Fin 32) (v : Nat), a.val = b.val → X v (ix2 a i) = X v (ix2 b i) := fun a b v h => by rw [Fin.ext h]
  interval_cases s <;> split_ifs <;> first | (exfalso; omega) | (refine e _ _ _ ?_; show _ = r.val; simp only []; omega)

/-- The eight strips combined. -/
theorem turn_apply (Q : FVec Ideal S256x256 .f32) (P : Fin 8) (r : Fin 32) (l : Fin 256) :
    turn Q P.val (ix2 r l) = butterfly (fun s => Q (ix2 (⟨s.val * 32 + r.val, by have := s.isLt; have := r.isLt; omega⟩ : Fin 256) l)) P := by
  obtain ⟨P, hP⟩ := P
  interval_cases P <;> (pointwise [turn, bfly]; simp [butterfly])

/-- Twelve products added from the left, at an index. -/
theorem mix_apply (u : Nat → Vec Ideal S32x128 .f32) (d : Nat → Elt Ideal .f32) (r : Fin 32) (l : Fin 128) :
    mix u d (ix2 r l) = u 0 (ix2 r l) * d 0 + u 1 (ix2 r l) * d 1 + u 2 (ix2 r l) * d 2 + u 3 (ix2 r l) * d 3 + u 4 (ix2 r l) * d 4
      + u 5 (ix2 r l) * d 5 + u 6 (ix2 r l) * d 6 + u 7 (ix2 r l) * d 7 + u 8 (ix2 r l) * d 8 + u 9 (ix2 r l) * d 9
      + u 10 (ix2 r l) * d 10 + u 11 (ix2 r l) * d 11 := by
  pointwise [mix]

end Cert.RotIdeal.Block
-- ==== Proof.RotTurn.lean ====
/- What one run of the rotation kernel's body stores in its two row buffers, over the extended reals, when its inputs are
   real numbers: the turned rows, then the rotated rows. -/
module

public import proofs.«01_k».proof.Proof.RotRun
public import proofs.«01_k».proof.Proof.RotArith
public import proofs.«01_k».proof.Proof.Rotation

@[expose] public section

set_option maxRecDepth 16384

noncomputable section

namespace Cert.RotIdeal.Block

open Cert.RotIdeal Cert.RotIdeal.Gen Idealize.ShloMosaic Idealize.ShloMosaic.TcCoe Idealize.SL.Sem
open Idealize.ShloMosaic.Pointwise Cert.Rotation

/-! ## Lists of stores, the last one first -/

theorem mem_lastFirst {α : Type} (f : Nat → α) {n N : Nat} (h : n < N) : f n ∈ lastFirst f N := by
  induction N with
  | zero => exact absurd h (Nat.not_lt_zero _)
  | succ N ih =>
    rcases Nat.lt_succ_iff_lt_or_eq.mp h with h | h
    · exact List.mem_cons_of_mem _ (ih h)
    · rw [h]; exact List.mem_cons_self

theorem of_mem_lastFirst {α : Type} (f : Nat → α) {N : Nat} {p : α} (h : p ∈ lastFirst f N) : ∃ n, n < N ∧ p = f n := by
  induction N with
  | zero => exact absurd h List.not_mem_nil
  | succ N ih =>
    rcases List.mem_cons.mp h with h | h
    · exact ⟨N, Nat.lt_succ_self _, h⟩
    · obtain ⟨n, hn, e⟩ := ih h
      exact ⟨n, Nat.lt_succ_of_lt hn, e⟩

/-- An array whose stores all hold the values of `G` and reach every place is `G`. -/
theorem canon_lastFirst {S : Shape} {e : EltTy} (f : Nat → View.Piece (Elt Ideal) S e) (N : Nat) (G : S.Idx → Elt Ideal e)
    (hv : ∀ n, n < N → ∀ x : (f n).1.shape.Idx, (f n).2 x = G ((f n).1.emb x)) (y : S.Idx) (n : Nat) (hn : n < N) (hy : y ∈ (f n).1.set) :
    View.canon (lastFirst f N) y = G y :=
  View.canon_apply_of_pieces G _ (fun p hp x => by
    obtain ⟨k, hk, rfl⟩ := of_mem_lastFirst f hp
    exact hv k hk x) y ⟨f n, mem_lastFirst f hn, hy⟩

/-! ## The loads -/

variable (arg2 : Memref sig .tc .smem S144 .f32) (harg2 : arg2.IsWhole) (arg3 : Memref sig .tc .vmem S32x24576 .bf16) (harg3 : arg3.IsWhole)
  (arg4 : Memref sig .tc .vmem S256x256 .bf16) (harg4 : arg4.IsWhole) (arg9 arg10 : Memref sig .tc .vmem S32x24576 .f32)
  (x1 : Vec Ideal S144 .f32) (x2 : Vec Ideal S32x24576 .bf16) (x3 : Vec Ideal S256x256 .bf16)

theorem hOf_eq : hOf arg4 harg4 x3 = x3 := by
  have hz : (![0, 0] : Fin 2 → Nat) = fun _ => 0 := by funext a; match a with | ⟨0, _⟩ => rfl | ⟨1, _⟩ => rfl
  unfold hOf
  rw [View.readAt_eq_ld, harg4.read_unread, View.ld_unit_zero (S := S256x256) hz]

theorem xOf_apply (n : Nat) (r : Fin 32) (i : Fin 256) (q : Fin 24576) (hq : n % 96 * 256 + i.val = q.val) :
    xOf arg3 harg3 x2 n (ix2 r i) = x2 (ix2 r q) := by
  unfold xOf
  rw [View.readAt_eq_ld, harg3.read_unread]
  show x2 _ = _
  congr 1
  funext a; apply Fin.ext
  match a with
  | ⟨0, _⟩ => show 0 + 1 * r.val = r.val; omega
  | ⟨1, _⟩ => show n % 96 * 256 + 1 * i.val = q.val; omega

theorem dOf_apply (n : Nat) (hn : n < 144) : dOf arg2 harg2 x1 n = x1 (ix1 ⟨n, hn⟩) := by
  unfold dOf
  rw [View.readAt_eq_ld, harg2.read_unread]
  show x1 _ = _
  congr 1
  funext a; apply Fin.ext
  match a with
  | ⟨0, _⟩ => show n % 144 + 1 * 0 = n; omega

/-! ## The two row buffers -/

variable (x : Fin 32 → Nat → ℝ) (had : Nat → ℝ)
  (h2 : ∀ (r : Fin 32) (q : Fin 24576), x2 (ix2 r q) = (x r q.val : EReal))
  (h1 : ∀ n : Fin 144, x1 (ix1 n) = (had n.val : EReal))
  (h3 : ∀ i l : Fin 256, x3 (ix2 i l) = (sign i.val l.val : EReal))

/-- The turned rows. -/
def turnedRows : S32x24576.Idx → EReal := fun y => (turned (x (y (0 : Fin 2))) ((y (1 : Fin 2)).val / 2048) ((y (1 : Fin 2)).val % 2048) : EReal)

/-- The rotated rows before their factor. -/
def rotatedRows : S32x24576.Idx → EReal := fun y => (rotated (x (y (0 : Fin 2))) had ((y (1 : Fin 2)).val / 2048) ((y (1 : Fin 2)).val % 2048) : EReal)

include h2 h3 in
theorem uPiece_apply (n : Nat) (hn : n < 96) (r : Fin 32) (l : Fin 256) :
    (uPiece (hOf arg4 harg4 x3) (xOf arg3 harg3 x2) n).2 (ix2 r l) = (turned (x r) (n / 8) (n % 8 * 256 + l.val) : EReal) := by
  show shapeCast S32x256 (turn (blockProd _ _ (n / 8)) (n % 8)) shapeCasts_S32x256_S32x256 (ix2 r l) = _
  have e : shapeCast S32x256 (turn (blockProd (hOf arg4 harg4 x3) (xOf arg3 harg3 x2) (n / 8)) (n % 8)) shapeCasts_S32x256_S32x256 (ix2 r l)
      = turn (blockProd (hOf arg4 harg4 x3) (xOf arg3 harg3 x2) (n / 8)) (n % 8) (ix2 r l) := by
    generalize turn (blockProd (hOf arg4 harg4 x3) (xOf arg3 harg3 x2) (n / 8)) (n % 8) = T
    pointwise
  rw [e, turn_apply _ ⟨n % 8, Nat.mod_lt _ (by decide)⟩, ← turned_eq (x r) (n / 8) ⟨n % 8, Nat.mod_lt _ (by decide)⟩ l
    (fun s i => (x r (n / 8 * 2048 + (s.val * 256 + i.val)) : EReal)) (fun s i => (sign i l : EReal)) (fun _ _ => rfl) (fun _ _ => rfl)]
  congr 1
  funext s
  rw [prod_apply _ _ _ _ s.isLt, hOf_eq]
  refine Finset.sum_congr rfl fun i _ => ?_
  have hs := s.isLt
  have hi := i.isLt
  rw [xOf_apply arg3 harg3 x2 _ r i ⟨n / 8 * 2048 + (s.val * 256 + i.val), by omega⟩ (by show (n / 8 * 8 + s.val) % 96 * 256 + i.val = n / 8 * 2048 + (s.val * 256 + i.val); omega), h2, h3]

include h2 h3 in
theorem canon_uList (y : S32x24576.Idx) : View.canon (uList arg3 harg3 arg4 harg4 x2 x3) y = turnedRows x y := by
  have h0 : (y (0 : Fin 2)).val < 32 := (y (0 : Fin 2)).isLt
  have h1' : (y (1 : Fin 2)).val < 24576 := (y (1 : Fin 2)).isLt
  unfold uList
  refine canon_lastFirst (e := .f32) _ 96 (turnedRows x) (fun n hn z => ?_) y ((y (1 : Fin 2)).val / 256) (by omega) ?_
  · obtain ⟨a, b, rfl⟩ : ∃ (a : Fin 32) (b : Fin 256), z = ix2 a b := ⟨z (0 : Fin 2), z (1 : Fin 2), eq_ix2 z⟩
    have hb := b.isLt
    refine (uPiece_apply arg3 harg3 arg4 harg4 x2 x3 x h2 h3 n hn a b).trans ?_
    have e0 : ((uPiece (hOf arg4 harg4 x3) (xOf arg3 harg3 x2) n).1.emb (ix2 a b) (0 : Fin 2)) = a := by
      apply Fin.ext
      show 0 + 1 * a.val = _; omega
    have e1 : ((uPiece (hOf arg4 harg4 x3) (xOf arg3 harg3 x2) n).1.emb (ix2 a b) (1 : Fin 2)).val = n * 256 + b.val := by
      show n % 96 * 256 + 1 * b.val = _; omega
    unfold turnedRows
    rw [e0, e1]
    congr 2 <;> omega
  · refine (Rect.mem_set_unit (inb := inbU _)).mpr fun a => ?_
    match a with
    | ⟨0, _⟩ => exact ⟨Nat.zero_le _, by show (y (0 : Fin 2)).val < 0 + 32; omega⟩
    | ⟨1, _⟩ =>
      exact ⟨by show (y (1 : Fin 2)).val / 256 % 96 * 256 ≤ (y (1 : Fin 2)).val; omega,
        by show (y (1 : Fin 2)).val < (y (1 : Fin 2)).val / 256 % 96 * 256 + 256; omega⟩

include h2 h3 in
theorem uOf_apply (k l : Nat) (hk : k < 12) (hl : l < 16) (r : Fin 32) (c : Fin 128) :
    uOf arg3 harg3 arg4 harg4 arg9 x2 x3 k l (ix2 r c) = (turned (x r) k (l * 128 + c.val) : EReal) := by
  have hc := c.isLt
  unfold uOf
  rw [View.readCov_eq_canon']
  show View.canon _ _ = _
  rw [canon_uList arg3 harg3 arg4 harg4 x2 x3 x h2 h3]
  have e0 : ((chunkRect k l).toLoadRect.idx (ix2 r c) (0 : Fin 2)) = r := by
    apply Fin.ext
    show 0 + 1 * r.val = _; omega
  have e1 : ((chunkRect k l).toLoadRect.idx (ix2 r c) (1 : Fin 2)).val = k * 2048 + l * 128 + c.val := by
    show k % 12 * 2048 + l % 16 * 128 + 1 * c.val = _; omega
  unfold turnedRows
  rw [e0, e1]
  congr 2 <;> omega

include h1 h2 h3 in
theorem rOf_apply (n : Nat) (hn : n < 192) (r : Fin 32) (c : Fin 128) :
    rOf arg2 harg2 arg3 harg3 arg4 harg4 arg9 x1 x2 x3 n (ix2 r c) = (rotated (x r) had (n % 12) (n / 12 * 128 + c.val) : EReal) := by
  unfold rOf mixed
  rw [mix_apply]
  refine rotated_eq (x r) had (n % 12) (n / 12 * 128 + c.val) (fun k => uOf arg3 harg3 arg4 harg4 arg9 x2 x3 k (n / 12) (ix2 r c))
    (fun k => dOf arg2 harg2 x1 (n % 12 * 12 + k)) (fun k => ?_) (fun k => ?_)
  · exact uOf_apply arg3 harg3 arg4 harg4 arg9 x2 x3 x h2 h3 k _ k.isLt (by omega) r c
  · have hk := k.isLt
    show dOf arg2 harg2 x1 (n % 12 * 12 + k.val) = _
    rw [dOf_apply arg2 harg2 x1 _ (by omega), h1]

include h1 h2 h3 in
theorem canon_rList (y : S32x24576.Idx) :
    View.canon (rList arg2 harg2 arg3 harg3 arg4 harg4 arg9 x1 x2 x3) y = rotatedRows x had y := by
  have h0 : (y (0 : Fin 2)).val < 32 := (y (0 : Fin 2)).isLt
  have h1' : (y (1 : Fin 2)).val < 24576 := (y (1 : Fin 2)).isLt
  unfold rList
  refine canon_lastFirst (e := .f32) _ 192 (rotatedRows x had) (fun n hn z => ?_) y
    ((y (1 : Fin 2)).val % 2048 / 128 * 12 + (y (1 : Fin 2)).val / 2048) (by omega) ?_
  · obtain ⟨a, b, rfl⟩ : ∃ (a : Fin 32) (b : Fin 128), z = ix2 a b := ⟨z (0 : Fin 2), z (1 : Fin 2), eq_ix2 z⟩
    have hb := b.isLt
    have e0 : ((rPiece (rOf arg2 harg2 arg3 harg3 arg4 harg4 arg9 x1 x2 x3) n).1.emb (ix2 a b) (0 : Fin 2)) = a := by
      apply Fin.ext
      show 0 + 1 * a.val = _; omega
    have e1 : ((rPiece (rOf arg2 harg2 arg3 harg3 arg4 harg4 arg9 x1 x2 x3) n).1.emb (ix2 a b) (1 : Fin 2)).val
        = n % 12 * 2048 + n / 12 * 128 + b.val := by
      show n % 12 % 12 * 2048 + n / 12 % 16 * 128 + 1 * b.val = _; omega
    have e : (rPiece (rOf arg2 harg2 arg3 harg3 arg4 harg4 arg9 x1 x2 x3) n).2 (ix2 a b)
        = rOf arg2 harg2 arg3 harg3 arg4 harg4 arg9 x1 x2 x3 n (ix2 a b) := by
      show shapeCast S32x128 (rOf arg2 harg2 arg3 harg3 arg4 harg4 arg9 x1 x2 x3 n) shapeCasts_S32x128_S32x128 (ix2 a b) = _
      generalize rOf arg2 harg2 arg3 harg3 arg4 harg4 arg9 x1 x2 x3 n = T
      pointwise
    refine (e.trans (rOf_apply arg2 harg2 arg3 harg3 arg4 harg4 arg9 x1 x2 x3 x had h2 h1 h3 n hn a b)).trans ?_
    unfold rotatedRows
    rw [e0, e1]
    congr 2 <;> omega
  · refine (Rect.mem_set_unit (inb := inbR _ _)).mpr fun a => ?_
    match a with
    | ⟨0, _⟩ => exact ⟨Nat.zero_le _, by show (y (0 : Fin 2)).val < 0 + 32; omega⟩
    | ⟨1, _⟩ =>
      generalize e : (y (1 : Fin 2)).val = q at h1'
      have ha : q / 2048 < 12 := by omega
      have hb : q % 2048 / 128 < 16 := by omega
      have hq : q / 2048 * 2048 + q % 2048 = q := by omega
      have e1 : (q % 2048 / 128 * 12 + q / 2048) % 12 % 12 = q / 2048 := by omega
      have e3 : (q % 2048 / 128 * 12 + q / 2048) / 12 = q % 2048 / 128 := by omega
      have e2 : (q % 2048 / 128 * 12 + q / 2048) / 12 % 16 = q % 2048 / 128 := by rw [e3, Nat.mod_eq_of_lt hb]
      refine ⟨?_, ?_⟩
      · show (q % 2048 / 128 * 12 + q / 2048) % 12 % 12 * 2048 + (q % 2048 / 128 * 12 + q / 2048) / 12 % 16 * 128 ≤ (y (1 : Fin 2)).val
        rw [e, e1, e2]; omega
      · show (y (1 : Fin 2)).val < (q % 2048 / 128 * 12 + q / 2048) % 12 % 12 * 2048 + (q % 2048 / 128 * 12 + q / 2048) / 12 % 16 * 128 + 128
        rw [e, e1, e2]; omega

end Cert.RotIdeal.Block
-- ==== Proof.Quantise.lean ====
/- The four-bit quantiser of one row, in the kernel's order of operations and in the reference's, over the extended
   reals; and that the two give the same scale, zero point and codes of a row of real numbers. -/
module

public import Idealize.ShloMosaic.Lib.IdealHost
public import Idealize.ShloMosaic.Lib.Pointwise

@[expose] public section

noncomputable section

namespace Cert.Rotation

open Idealize.ShloMosaic

/-- The factor 1/√24576 as the programs hold it. -/
def inv : EReal := Ideal.ofBits .f32 0x3BD105EC#32

/-- The least and the greatest entry of a row. -/
def least {n : Nat} (R : Fin n → EReal) : EReal := Finset.univ.inf R
def greatest {n : Nat} (R : Fin n → EReal) : EReal := Finset.univ.sup R

/-- The scale of a row with least entry `mn` and greatest entry `mx`: a fifteenth of its width, or one. -/
def scaleOf (mn mx : EReal) : EReal :=
  if mx = mn then Ideal.ofBits .f32 0x3F800000#32 else Ideal.div (mx - mn) (Ideal.ofBits .f32 0x41700000#32)

/-- The zero point. -/
def zeroOf (mn s : EReal) : EReal := Ideal.liftRound Ideal.roundHalfEven (Ideal.div (0 - mn) s)

/-- The code of an entry already divided by the scale, as a number. -/
def codeOf (v z : EReal) : EReal := min 15 (max 0 (Ideal.liftRound Ideal.roundHalfEven v + z))

/-! ## The constants are real numbers -/

theorem inv_pos : ∃ ι : ℝ, 0 < ι ∧ inv = (ι : EReal) := by
  refine ⟨(13698540 : ℝ) / 2 ^ 31, by norm_num, ?_⟩
  unfold inv
  simp [Ideal.ofBits, Ideal.ieee]
  rw [← EReal.coe_mul]
  norm_num

theorem one_eq : Ideal.ofBits .f32 0x3F800000#32 = ((1 : ℝ) : EReal) := by
  rw [Ideal.ofBits_one_f32]; rfl

theorem fifteen_eq : Ideal.ofBits .f32 0x41700000#32 = ((15 : ℝ) : EReal) := by
  simp [Ideal.ofBits, Ideal.ieee]
  rw [← EReal.coe_mul]
  norm_num

theorem div_real {x y : ℝ} (hy : y ≠ 0) : Ideal.div (x : EReal) (y : EReal) = ((x / y : ℝ) : EReal) := by
  rw [Ideal.div_coe hy, ← EReal.coe_mul, mul_one_div]

theorem round_real (x : ℝ) : Ideal.liftRound Ideal.roundHalfEven (x : EReal) = ((Ideal.roundHalfEven x : ℝ) : EReal) := rfl

/-! ## Least and greatest entries -/

theorem least_real {n : Nat} (hn : 0 < n) (r : Fin n → ℝ) :
    ∃ m : ℝ, least (fun i => (r i : EReal)) = (m : EReal) ∧ (∀ i, m ≤ r i) ∧ ∃ i, m = r i := by
  obtain ⟨i, -, hi⟩ := Finset.exists_mem_eq_inf (Finset.univ : Finset (Fin n)) ⟨⟨0, hn⟩, Finset.mem_univ _⟩
    (fun i => (r i : EReal))
  refine ⟨r i, hi, fun j => ?_, i, rfl⟩
  have : Finset.univ.inf (fun i => (r i : EReal)) ≤ (r j : EReal) := Finset.inf_le (Finset.mem_univ j)
  rw [hi] at this
  exact EReal.coe_le_coe_iff.mp this

theorem greatest_real {n : Nat} (hn : 0 < n) (r : Fin n → ℝ) :
    ∃ m : ℝ, greatest (fun i => (r i : EReal)) = (m : EReal) ∧ (∀ i, r i ≤ m) ∧ ∃ i, m = r i := by
  obtain ⟨i, -, hi⟩ := Finset.exists_mem_eq_sup (Finset.univ : Finset (Fin n)) ⟨⟨0, hn⟩, Finset.mem_univ _⟩
    (fun i => (r i : EReal))
  refine ⟨r i, hi, fun j => ?_, i, rfl⟩
  have : (r j : EReal) ≤ Finset.univ.sup (fun i => (r i : EReal)) := Finset.le_sup (f := fun i => (r i : EReal)) (Finset.mem_univ j)
  rw [hi] at this
  exact EReal.coe_le_coe_iff.mp this

theorem least_mul {n : Nat} (hn : 0 < n) (r : Fin n → ℝ) :
    least (fun i => (r i : EReal) * inv) = least (fun i => (r i : EReal)) * inv := by
  obtain ⟨ι, hι, e⟩ := inv_pos
  obtain ⟨m, hm, hle, i, hi⟩ := least_real hn r
  rw [hm, e]
  apply le_antisymm
  · refine le_trans (Finset.inf_le (Finset.mem_univ i)) ?_
    rw [hi]
  · refine Finset.le_inf fun j _ => ?_
    rw [← EReal.coe_mul, ← EReal.coe_mul]
    exact EReal.coe_le_coe_iff.mpr (mul_le_mul_of_nonneg_right (hle j) hι.le)

theorem greatest_mul {n : Nat} (hn : 0 < n) (r : Fin n → ℝ) :
    greatest (fun i => (r i : EReal) * inv) = greatest (fun i => (r i : EReal)) * inv := by
  obtain ⟨ι, hι, e⟩ := inv_pos
  obtain ⟨m, hm, hle, i, hi⟩ := greatest_real hn r
  rw [hm, e]
  apply le_antisymm
  · refine Finset.sup_le fun j _ => ?_
    rw [← EReal.coe_mul, ← EReal.coe_mul]
    exact EReal.coe_le_coe_iff.mpr (mul_le_mul_of_nonneg_right (hle j) hι.le)
  · refine le_trans ?_ (Finset.le_sup (f := fun i => (r i : EReal) * (ι : EReal)) (Finset.mem_univ i))
    rw [hi]

/-! ## The codes -/

theorem scale_real (mn mx : ℝ) : ∃ s : ℝ, s ≠ 0 ∧ scaleOf (mn : EReal) (mx : EReal) = (s : EReal) := by
  unfold scaleOf
  by_cases h : mx = mn
  · exact ⟨1, one_ne_zero, by rw [if_pos (by rw [h]), one_eq]⟩
  · refine ⟨(mx - mn) / 15, div_ne_zero (sub_ne_zero.mpr h) (by norm_num), ?_⟩
    rw [if_neg (by simpa using h), fifteen_eq, ← EReal.coe_sub, div_real (by norm_num)]

/-- Multiplying by the factor over the scale is multiplying by the factor and dividing by the scale. -/
theorem scaled_eq (r mn mx : ℝ) :
    (r : EReal) * Ideal.div inv (scaleOf (mn : EReal) (mx : EReal))
      = Ideal.div ((r : EReal) * inv) (scaleOf (mn : EReal) (mx : EReal)) := by
  obtain ⟨ι, -, e⟩ := inv_pos
  obtain ⟨s, hs, h⟩ := scale_real mn mx
  rw [h, e, div_real hs, ← EReal.coe_mul, ← EReal.coe_mul, div_real hs]
  congr 1
  ring

/-- A code is a whole number between 0 and 15. -/
theorem code_nat (v mn mx mn' : ℝ) :
    ∃ k : Fin 16, codeOf (Ideal.div ((v : EReal) * inv) (scaleOf (mn : EReal) (mx : EReal)))
      (zeroOf (mn' : EReal) (scaleOf (mn : EReal) (mx : EReal))) = ((k.val : ℝ) : EReal) := by
  obtain ⟨ι, -, e⟩ := inv_pos
  obtain ⟨s, hs, h⟩ := scale_real mn mx
  unfold codeOf zeroOf
  rw [h, e, ← EReal.coe_mul, div_real hs, round_real, ← EReal.coe_zero, ← EReal.coe_sub, div_real hs, round_real,
    ← EReal.coe_add]
  generalize Ideal.roundHalfEven (v * ι / s) = a
  generalize Ideal.roundHalfEven ((0 - mn') / s) = b
  refine ⟨⟨(min 15 (max 0 (a + b))).toNat, by omega⟩, ?_⟩
  have e1 : ((min 15 (max 0 (a + b))).toNat : ℤ) = min 15 (max 0 (a + b)) := Int.toNat_of_nonneg (by omega)
  have e2 : (((min 15 (max 0 (a + b))).toNat : ℕ) : ℝ) = ((min 15 (max 0 (a + b)) : ℤ) : ℝ) := by
    rw [← e1]; push_cast; rfl
  show min 15 (max _ _) = ((((min 15 (max 0 (a + b))).toNat : ℕ) : ℝ) : EReal)
  rw [e2]
  push_cast
  rw [EReal.coe_strictMono.monotone.map_min, EReal.coe_strictMono.monotone.map_max, EReal.coe_zero, EReal.coe_add]
  rfl

/-- Such a number as a word of eight bits, directly and through a word of thirty-two. -/
theorem code_word (k : Fin 16) :
    (Ideal.fptosi 32 ((k.val : ℝ) : EReal)).setWidth 8 = Ideal.fptosi 8 ((k.val : ℝ) : EReal) := by
  have h : ∀ lo hi : ℤ, Ideal.toIntClamped lo hi ((k.val : ℝ) : EReal) = max lo (min hi (k.val : ℤ)) := by
    intro lo hi
    show max lo (min hi (if (0 : ℝ) ≤ (k.val : ℝ) then ⌊(k.val : ℝ)⌋ else ⌈(k.val : ℝ)⌉)) = _
    rw [if_pos (Nat.cast_nonneg _), Int.floor_natCast]
  unfold Ideal.fptosi
  rw [h, h]
  clear h
  revert k
  decide

/-- … which read as a signed number is the code again. -/
theorem code_signed (k : Fin 16) : (((Ideal.fptosi 8 ((k.val : ℝ) : EReal)).toInt : ℝ) : EReal) = ((k.val : ℝ) : EReal) := by
  have h : ∀ lo hi : ℤ, Ideal.toIntClamped lo hi ((k.val : ℝ) : EReal) = max lo (min hi (k.val : ℤ)) := by
    intro lo hi
    show max lo (min hi (if (0 : ℝ) ≤ (k.val : ℝ) then ⌊(k.val : ℝ)⌋ else ⌈(k.val : ℝ)⌉)) = _
    rw [if_pos (Nat.cast_nonneg _), Int.floor_natCast]
  unfold Ideal.fptosi
  rw [h]
  have : ∀ k : Fin 16, (BitVec.ofInt 8 (max (-(2 ^ (8 - 1) : Nat)) (min ((2 ^ (8 - 1) : Nat) - 1) (k.val : ℤ)))).toInt = (k.val : ℤ) := by
    decide
  rw [this k]
  push_cast
  rfl

end Cert.Rotation

end
-- ==== Proof.RotSpec.lean ====
/- The results of the rotation and quantisation of one row, over the extended reals. -/
module

public import proofs.«01_k».proof.Proof.Quantise
public import proofs.«01_k».proof.Proof.Rotation

@[expose] public section

noncomputable section

namespace Cert.Rotation

open Idealize.ShloMosaic

/-- The scale, the zero point and the codes of a row. -/
def rowScale (R : Fin 24576 → EReal) : EReal := scaleOf (least R) (greatest R)
def rowZero (R : Fin 24576 → EReal) : EReal := zeroOf (least R) (rowScale R)
def rowCode (R : Fin 24576 → EReal) (q : Fin 24576) : EReal := codeOf (Ideal.div (R q) (rowScale R)) (rowZero R)

/-- A rotated row before its factor, by its place, and the rotated row. -/
def rotRow (y : Nat → ℝ) (had : Nat → ℝ) (q : Fin 24576) : ℝ := rotated y had (q.val / 2048) (q.val % 2048)
def outRow (y : Nat → ℝ) (had : Nat → ℝ) (q : Fin 24576) : EReal := (rotRow y had q : EReal) * inv

theorem least_outRow (y had : Nat → ℝ) : least (fun q => ((rotRow y had q : ℝ) : EReal)) * inv = least (outRow y had) :=
  (least_mul (by decide) (rotRow y had)).symm

theorem greatest_outRow (y had : Nat → ℝ) : greatest (fun q => ((rotRow y had q : ℝ) : EReal)) * inv = greatest (outRow y had) :=
  (greatest_mul (by decide) (rotRow y had)).symm

theorem least_outRow_real (y had : Nat → ℝ) : ∃ m : ℝ, least (outRow y had) = (m : EReal) := by
  obtain ⟨ι, -, e⟩ := inv_pos
  obtain ⟨m, hm, -⟩ := least_real (by decide) (rotRow y had)
  exact ⟨m * ι, by rw [← least_outRow, hm, e, EReal.coe_mul]⟩

theorem greatest_outRow_real (y had : Nat → ℝ) : ∃ m : ℝ, greatest (outRow y had) = (m : EReal) := by
  obtain ⟨ι, -, e⟩ := inv_pos
  obtain ⟨m, hm, -⟩ := greatest_real (by decide) (rotRow y had)
  exact ⟨m * ι, by rw [← greatest_outRow, hm, e, EReal.coe_mul]⟩

/-- The code from the factor over the scale. -/
theorem code_factor (y had : Nat → ℝ) (q : Fin 24576) :
    codeOf ((rotRow y had q : EReal) * Ideal.div inv (rowScale (outRow y had))) (rowZero (outRow y had)) = rowCode (outRow y had) q := by
  obtain ⟨mn, hn⟩ := least_outRow_real y had
  obtain ⟨mx, hx⟩ := greatest_outRow_real y had
  have e : (rotRow y had q : EReal) * Ideal.div inv (rowScale (outRow y had)) = Ideal.div (outRow y had q) (rowScale (outRow y had)) := by
    unfold rowScale
    rw [hn, hx, scaled_eq]
    unfold outRow
    rfl
  unfold rowCode
  rw [e]

/-- The code is a whole number from 0 to 15. -/
theorem rowCode_nat (y had : Nat → ℝ) (q : Fin 24576) : ∃ k : Fin 16, rowCode (outRow y had) q = ((k.val : ℝ) : EReal) := by
  obtain ⟨mn, hn⟩ := least_outRow_real y had
  obtain ⟨mx, hx⟩ := greatest_outRow_real y had
  obtain ⟨k, hk⟩ := code_nat (rotRow y had q) mn mx mn
  refine ⟨k, ?_⟩
  rw [← hk]
  unfold rowCode rowZero rowScale
  rw [hn, hx]
  rfl

theorem rowCode_word (y had : Nat → ℝ) (q : Fin 24576) :
    (Ideal.fptosi 32 (rowCode (outRow y had) q)).setWidth 8 = Ideal.fptosi 8 (rowCode (outRow y had) q) := by
  obtain ⟨k, hk⟩ := rowCode_nat y had q
  rw [hk, code_word]

theorem rowCode_signed (y had : Nat → ℝ) (q : Fin 24576) :
    (((Ideal.fptosi 8 (rowCode (outRow y had) q)).toInt : ℝ) : EReal) = rowCode (outRow y had) q := by
  obtain ⟨k, hk⟩ := rowCode_nat y had q
  rw [hk, code_signed]

end Cert.Rotation

end
-- ==== Proof.RotOut.lean ====
/- What one run of the rotation kernel's body leaves in its four outputs, over the extended reals, when its inputs are real
   numbers: the codes, the same codes as numbers, and the scale and zero point at every lane. -/
module

public import proofs.«01_k».proof.Proof.RotTurn
public import proofs.«01_k».proof.Proof.RotSpec

@[expose] public section

set_option maxRecDepth 16384

noncomputable section

namespace Cert.RotIdeal.Block

open Cert.RotIdeal Cert.RotIdeal.Gen Idealize.ShloMosaic Idealize.ShloMosaic.TcCoe Idealize.SL.Sem
open Idealize.ShloMosaic.Pointwise Cert.Rotation

/-! ## The least and greatest entry of a row, by chunks -/

theorem inf_word : Ideal.ofBits .f32 0x7F800000#32 = (⊤ : EReal) := by simp [Ideal.ofBits, Ideal.ieee]
theorem neg_inf_word : Ideal.ofBits .f32 0xFF800000#32 = (⊥ : EReal) := by simp [Ideal.ofBits, Ideal.ieee]

theorem runMin_apply (R : Nat → FVec Ideal S32x128 .f32) (n : Nat) (r : Fin 32) (l : Fin 128) :
    runMin R n (ix2 r l) = (Finset.range n).inf fun k => (R k (ix2 r l) : EReal) := by
  induction n with
  | zero => exact inf_word
  | succ n ih =>
    rw [Finset.range_add_one, Finset.inf_insert, ← ih, inf_comm]
    rfl

theorem runMax_apply (R : Nat → FVec Ideal S32x128 .f32) (n : Nat) (r : Fin 32) (l : Fin 128) :
    runMax R n (ix2 r l) = (Finset.range n).sup fun k => (R k (ix2 r l) : EReal) := by
  induction n with
  | zero => exact neg_inf_word
  | succ n ih =>
    rw [Finset.range_add_one, Finset.sup_insert, ← ih, sup_comm]
    rfl

theorem mnCol_apply (M : FVec Ideal S32x128 .f32) (r : Fin 32) : mnCol M (ix2 r 0) = least (fun l : Fin 128 => M (ix2 r l)) * Rotation.inv := by
  pointwise [mnCol]
  unfold Rotation.inv least
  rw [inf_word]
  rfl

theorem mxCol_apply (M : FVec Ideal S32x128 .f32) (r : Fin 32) : mxCol M (ix2 r 0) = greatest (fun l : Fin 128 => M (ix2 r l)) * Rotation.inv := by
  pointwise [mxCol]
  unfold Rotation.inv greatest
  rw [neg_inf_word]
  rfl

/-- The place of lane `l` of chunk `n` in a row, in the order the chunks are mixed, and back. -/
theorem least_chunks (g : Nat → Nat → EReal) (f : Fin 24576 → EReal) (hg : ∀ n l, n < 192 → (hl : l < 128) → ∀ h, g n l = f ⟨n % 12 * 2048 + (n / 12 * 128 + l), h⟩) :
    least (fun l : Fin 128 => (Finset.range 192).inf fun n => g n l) = least f := by
  apply le_antisymm
  · refine Finset.le_inf fun q _ => ?_
    have hq := q.isLt
    refine (Finset.inf_le (Finset.mem_univ (⟨q.val % 128, Nat.mod_lt _ (by decide)⟩ : Fin 128))).trans ?_
    refine (Finset.inf_le (Finset.mem_range.mpr (show q.val % 2048 / 128 * 12 + q.val / 2048 < 192 by omega))).trans ?_
    show g _ (q.val % 128) ≤ _
    rw [hg _ _ (by omega) (by omega) (by omega)]
    apply le_of_eq
    congr 1
    apply Fin.ext
    show _ = q.val
    simp only []
    omega
  · refine Finset.le_inf fun l _ => Finset.le_inf fun n hn => ?_
    have hn' := Finset.mem_range.mp hn
    have hl := l.isLt
    rw [hg n l hn' hl (by omega)]
    exact Finset.inf_le (Finset.mem_univ _)

theorem greatest_chunks (g : Nat → Nat → EReal) (f : Fin 24576 → EReal) (hg : ∀ n l, n < 192 → (hl : l < 128) → ∀ h, g n l = f ⟨n % 12 * 2048 + (n / 12 * 128 + l), h⟩) :
    greatest (fun l : Fin 128 => (Finset.range 192).sup fun n => g n l) = greatest f := by
  apply le_antisymm
  · refine Finset.sup_le fun l _ => Finset.sup_le fun n hn => ?_
    have hn' := Finset.mem_range.mp hn
    have hl := l.isLt
    rw [hg n l hn' hl (by omega)]
    exact Finset.le_sup (f := f) (Finset.mem_univ _)
  · refine Finset.sup_le fun q _ => ?_
    have hq := q.isLt
    refine le_trans ?_ (Finset.le_sup (f := fun l : Fin 128 => (Finset.range 192).sup fun n => g n l) (Finset.mem_univ (⟨q.val % 128, Nat.mod_lt _ (by decide)⟩ : Fin 128)))
    refine le_trans ?_ (Finset.le_sup (f := fun n => g n (q.val % 128)) (Finset.mem_range.mpr (show q.val % 2048 / 128 * 12 + q.val / 2048 < 192 by omega)))
    show _ ≤ g _ (q.val % 128)
    rw [hg _ _ (by omega) (by omega) (by omega)]
    apply le_of_eq
    congr 1
    apply Fin.ext
    show q.val = _
    simp only []
    omega

/-! ## The quantiser's lines, over any columns -/

theorem scaleCol_apply (mn mx : FVec Ideal S32x1 .f32) (r : Fin 32) :
    scaleCol mn mx (ix2 r 0) = scaleOf (mn (ix2 r 0)) (mx (ix2 r 0)) := by
  unfold scaleOf
  rw [Ideal.ofBits_one_f32]
  pointwise [scaleCol]

theorem zeroCol_apply (mn s : FVec Ideal S32x1 .f32) (r : Fin 32) :
    zeroCol mn s (ix2 r 0) = zeroOf (mn (ix2 r 0)) (s (ix2 r 0)) := by
  unfold zeroOf
  pointwise [zeroCol]

theorem wide_apply (s : FVec Ideal S32x1 .f32) (r : Fin 32) (l : Fin 128) : wide s (ix2 r l) = s (ix2 r 0) := by
  pointwise [wide]

theorem factorCol_apply (s : FVec Ideal S32x1 .f32) (r : Fin 32) : factorCol s (ix2 r 0) = Ideal.div Rotation.inv (s (ix2 r 0)) := by
  unfold Rotation.inv
  pointwise [factorCol]

theorem clip_lo : ((((0#32 : BitVec 32).toInt : ℝ)) : EReal) = 0 := by simp
theorem clip_hi : ((((15#32 : BitVec 32).toInt : ℝ)) : EReal) = 15 := by
  have : (15#32 : BitVec 32).toInt = 15 := by decide
  rw [this]; norm_num; rfl

theorem quant_apply (f z : FVec Ideal S32x128 .f32) (R : Vec Ideal S32x128 .f32) (i : S32x128.Idx) :
    quant f z R i = codeOf (R i * f i) (z i) := by
  unfold codeOf
  rw [← clip_lo, ← clip_hi]
  pointwise [quant]

theorem quant8_apply (q : FVec Ideal S32x128 .bf16) (i : S32x128.Idx) : quant8 q i = q i := rfl
theorem quantI_apply (q : FVec Ideal S32x128 .bf16) (i : S32x128.Idx) : quantI q i = (Ideal.fptosi 32 (q i)).setWidth 8 := rfl

/-! ## The outputs -/

variable (arg2 : Memref sig .tc .smem S144 .f32) (harg2 : arg2.IsWhole) (arg3 : Memref sig .tc .vmem S32x24576 .bf16) (harg3 : arg3.IsWhole)
  (arg4 : Memref sig .tc .vmem S256x256 .bf16) (harg4 : arg4.IsWhole) (arg9 arg10 : Memref sig .tc .vmem S32x24576 .f32)
  (x1 : Vec Ideal S144 .f32) (x2 : Vec Ideal S32x24576 .bf16) (x3 : Vec Ideal S256x256 .bf16)

variable (x : Fin 32 → Nat → ℝ) (had : Nat → ℝ)
  (h2 : ∀ (r : Fin 32) (q : Fin 24576), x2 (ix2 r q) = (x r q.val : EReal))
  (h1 : ∀ n : Fin 144, x1 (ix1 n) = (had n.val : EReal))
  (h3 : ∀ i l : Fin 256, x3 (ix2 i l) = (sign i.val l.val : EReal))

include h1 h2 h3 in
theorem mnOf_apply (r : Fin 32) : mnOf arg2 harg2 arg3 harg3 arg4 harg4 arg9 x1 x2 x3 (ix2 r 0)
    = least (outRow (x r) had) := by
  rw [← least_outRow]
  unfold mnOf
  rw [mnCol_apply]
  refine congrArg (fun v : EReal => v * Rotation.inv) ?_
  refine Eq.trans (congrArg least ?_) (least_chunks (fun n l => (rotated (x r) had (n % 12) (n / 12 * 128 + l) : EReal)) (fun q => ((rotRow (x r) had q : ℝ) : EReal))
    (fun n l hn hl h => ?_))
  rotate_left
  · have a1 : (n % 12 * 2048 + (n / 12 * 128 + l)) / 2048 = n % 12 := by omega
    have a2 : (n % 12 * 2048 + (n / 12 * 128 + l)) % 2048 = n / 12 * 128 + l := by omega
    show _ = ((rotated (x r) had ((n % 12 * 2048 + (n / 12 * 128 + l)) / 2048) ((n % 12 * 2048 + (n / 12 * 128 + l)) % 2048) : ℝ) : EReal)
    rw [a1, a2]
  funext l
  rw [runMin_apply]
  refine Finset.inf_congr rfl fun n hn => ?_
  exact rOf_apply arg2 harg2 arg3 harg3 arg4 harg4 arg9 x1 x2 x3 x had h2 h1 h3 n (Finset.mem_range.mp hn) r l

include h1 h2 h3 in
theorem mxOf_apply (r : Fin 32) : mxOf arg2 harg2 arg3 harg3 arg4 harg4 arg9 x1 x2 x3 (ix2 r 0)
    = greatest (outRow (x r) had) := by
  rw [← greatest_outRow]
  unfold mxOf
  rw [mxCol_apply]
  refine congrArg (fun v : EReal => v * Rotation.inv) ?_
  refine Eq.trans (congrArg greatest ?_) (greatest_chunks (fun n l => (rotated (x r) had (n % 12) (n / 12 * 128 + l) : EReal)) (fun q => ((rotRow (x r) had q : ℝ) : EReal))
    (fun n l hn hl h => ?_))
  rotate_left
  · have a1 : (n % 12 * 2048 + (n / 12 * 128 + l)) / 2048 = n % 12 := by omega
    have a2 : (n % 12 * 2048 + (n / 12 * 128 + l)) % 2048 = n / 12 * 128 + l := by omega
    show _ = ((rotated (x r) had ((n % 12 * 2048 + (n / 12 * 128 + l)) / 2048) ((n % 12 * 2048 + (n / 12 * 128 + l)) % 2048) : ℝ) : EReal)
    rw [a1, a2]
  funext l
  rw [runMax_apply]
  refine Finset.sup_congr rfl fun n hn => ?_
  exact rOf_apply arg2 harg2 arg3 harg3 arg4 harg4 arg9 x1 x2 x3 x had h2 h1 h3 n (Finset.mem_range.mp hn) r l

include h1 h2 h3 in
theorem sOf_apply (r : Fin 32) : sOf arg2 harg2 arg3 harg3 arg4 harg4 arg9 x1 x2 x3 (ix2 r 0) = rowScale (outRow (x r) had) := by
  unfold sOf
  rw [scaleCol_apply, mnOf_apply arg2 harg2 arg3 harg3 arg4 harg4 arg9 x1 x2 x3 x had h2 h1 h3, mxOf_apply arg2 harg2 arg3 harg3 arg4 harg4 arg9 x1 x2 x3 x had h2 h1 h3]
  rfl

include h1 h2 h3 in
theorem zOf_apply (r : Fin 32) : zOf arg2 harg2 arg3 harg3 arg4 harg4 arg9 x1 x2 x3 (ix2 r 0) = rowZero (outRow (x r) had) := by
  unfold zOf
  rw [zeroCol_apply, mnOf_apply arg2 harg2 arg3 harg3 arg4 harg4 arg9 x1 x2 x3 x had h2 h1 h3, sOf_apply arg2 harg2 arg3 harg3 arg4 harg4 arg9 x1 x2 x3 x had h2 h1 h3]
  rfl

include h1 h2 h3 in
theorem qOf_apply (n : Nat) (hn : n < 192) (r : Fin 32) (l : Fin 128) (q : Fin 24576) (hq : q.val = n * 128 + l.val) :
    qOf arg2 harg2 arg3 harg3 arg4 harg4 arg9 arg10 x1 x2 x3 n (ix2 r l) = rowCode (outRow (x r) had) q := by
  have hl := l.isLt
  unfold qOf
  rw [quant_apply, wide_apply, wide_apply, factorCol_apply, sOf_apply arg2 harg2 arg3 harg3 arg4 harg4 arg9 x1 x2 x3 x had h2 h1 h3, zOf_apply arg2 harg2 arg3 harg3 arg4 harg4 arg9 x1 x2 x3 x had h2 h1 h3, ← code_factor]
  have e : arg10.view.readCov (rList arg2 harg2 arg3 harg3 arg4 harg4 arg9 x1 x2 x3) (codeRect n).toLoadRect (ix2 r l) = (rotRow (x r) had q : EReal) := by
    rw [View.readCov_eq_canon']
    show View.canon _ _ = _
    rw [canon_rList arg2 harg2 arg3 harg3 arg4 harg4 arg9 x1 x2 x3 x had h2 h1 h3]
    have e0 : ((codeRect n).toLoadRect.idx (ix2 r l) (0 : Fin 2)) = r := by
      apply Fin.ext
      show 0 + 1 * r.val = _; omega
    have e1 : ((codeRect n).toLoadRect.idx (ix2 r l) (1 : Fin 2)).val = q.val := by
      show n % 192 * 128 + 1 * l.val = _; omega
    unfold rotatedRows rotRow
    rw [e0, e1]
  exact congrArg (fun v : EReal => codeOf (v * Ideal.div Rotation.inv (rowScale (outRow (x r) had))) (rowZero (outRow (x r) had))) e

variable (c : Dev nD) (i : grid0.Coords) (arg1 : Memref sig .tc .smem S48 .i32) (harg1 : arg1.IsWhole) (arg5 : Memref sig .tc .vmem S32x24576 .i8) (harg5 : arg5.IsWhole)
  (arg6 : Memref sig .tc .vmem S32x24576 .fp8e4m3) (harg6 : arg6.IsWhole) (arg7 : Memref sig .tc .vmem S32x128 .f32) (harg7 : arg7.IsWhole)
  (arg8 : Memref sig .tc .vmem S32x128 .f32) (harg8 : arg8.IsWhole) (harg9 : arg9.IsWhole) (harg10 : arg10.IsWhole)
  (arg11 : Memref sig .tc .vmem S32x32x128 .f32) (harg11 : arg11.IsWhole) (arg12 : Memref sig .tc .vmem S32x32x128 .f32) (harg12 : arg12.IsWhole)
  (arg13 : Memref sig .tc .vmem S32x32x128 .f32) (harg13 : arg13.IsWhole) (x0 : Vec Ideal S48 .i32)

theorem reach (y : S32x24576.Idx) : y ∈ (codeRect ((y (1 : Fin 2)).val / 128)).set := by
  have h0 : (y (0 : Fin 2)).val < 32 := (y (0 : Fin 2)).isLt
  have h1' : (y (1 : Fin 2)).val < 24576 := (y (1 : Fin 2)).isLt
  refine (Rect.mem_set_unit (inb := inbC _)).mpr fun a => ?_
  match a with
  | ⟨0, _⟩ => exact ⟨Nat.zero_le _, by show (y (0 : Fin 2)).val < 0 + 32; omega⟩
  | ⟨1, _⟩ =>
    exact ⟨by show (y (1 : Fin 2)).val / 128 % 192 * 128 ≤ (y (1 : Fin 2)).val; omega,
      by show (y (1 : Fin 2)).val < (y (1 : Fin 2)).val / 128 % 192 * 128 + 128; omega⟩

/-- The block of output 4. -/
def codesG : S32x24576.Idx → Elt Ideal .i8 := fun y => (Ideal.fptosi 8 (rowCode (outRow (x (y (0 : Fin 2))) had) (y (1 : Fin 2))) : BitVec 8)

include h1 h2 h3 in
theorem codes_apply (r : Fin 32) (q : Fin 24576) : out0_A_4 c i arg1 harg1 arg2 harg2 arg3 harg3 arg4 harg4 arg5 harg5 arg6 harg6 arg7 harg7 arg8 harg8 arg9 harg9 arg10 harg10 arg11 harg11 arg12 harg12 arg13 harg13 x0 x1 x2 x3 (ix2 r q) = codesG x had (ix2 r q) := by
  have hq := q.isLt
  unfold out0_A_4
  rw [View.read_writes_eq_canon _ _ _ (fun y => cover0_A_4 c i arg1 harg1 arg2 harg2 arg3 harg3 arg4 harg4 arg5 harg5 arg6 harg6 arg7 harg7 arg8 harg8 arg9 harg9 arg10 harg10 arg11 harg11 arg12 harg12 arg13 harg13 x0 x1 x2 x3 y), codes_eq]
  refine canon_lastFirst (e := .i8) _ 192 (codesG x had) (fun n hn z => ?_) (ix2 r q) (q.val / 128) (by omega) (reach (ix2 r q))
  obtain ⟨a, b, rfl⟩ : ∃ (a : Fin 32) (b : Fin 128), z = ix2 a b := ⟨z (0 : Fin 2), z (1 : Fin 2), eq_ix2 z⟩
  have hb := b.isLt
  have e0 : ((cPiece arg2 harg2 arg3 harg3 arg4 harg4 arg9 arg10 x1 x2 x3 n).1.emb (ix2 a b) (0 : Fin 2)) = a := by
    apply Fin.ext
    show 0 + 1 * a.val = _; omega
  have e1 : ((cPiece arg2 harg2 arg3 harg3 arg4 harg4 arg9 arg10 x1 x2 x3 n).1.emb (ix2 a b) (1 : Fin 2)) = (⟨n * 128 + b.val, by omega⟩ : Fin 24576) := by
    apply Fin.ext
    show n % 192 * 128 + 1 * b.val = n * 128 + b.val; omega
  unfold codesG
  rw [e0, e1]
  show quantI (qOf arg2 harg2 arg3 harg3 arg4 harg4 arg9 arg10 x1 x2 x3 n) (ix2 a b) = _
  rw [quantI_apply, qOf_apply arg2 harg2 arg3 harg3 arg4 harg4 arg9 arg10 x1 x2 x3 x had h2 h1 h3 n hn a b ⟨n * 128 + b.val, by omega⟩ rfl]
  exact rowCode_word _ _ _

/-- The block of output 5. -/
def a8G : S32x24576.Idx → Elt Ideal .fp8e4m3 := fun y => (rowCode (outRow (x (y (0 : Fin 2))) had) (y (1 : Fin 2)) : EReal)

include h1 h2 h3 in
theorem a8_apply (r : Fin 32) (q : Fin 24576) : out0_A_5 c i arg1 harg1 arg2 harg2 arg3 harg3 arg4 harg4 arg5 harg5 arg6 harg6 arg7 harg7 arg8 harg8 arg9 harg9 arg10 harg10 arg11 harg11 arg12 harg12 arg13 harg13 x0 x1 x2 x3 (ix2 r q) = a8G x had (ix2 r q) := by
  have hq := q.isLt
  unfold out0_A_5
  rw [View.read_writes_eq_canon _ _ _ (fun y => cover0_A_5 c i arg1 harg1 arg2 harg2 arg3 harg3 arg4 harg4 arg5 harg5 arg6 harg6 arg7 harg7 arg8 harg8 arg9 harg9 arg10 harg10 arg11 harg11 arg12 harg12 arg13 harg13 x0 x1 x2 x3 y), a8_eq]
  refine canon_lastFirst (e := .fp8e4m3) _ 192 (a8G x had) (fun n hn z => ?_) (ix2 r q) (q.val / 128) (by omega) (reach (ix2 r q))
  obtain ⟨a, b, rfl⟩ : ∃ (a : Fin 32) (b : Fin 128), z = ix2 a b := ⟨z (0 : Fin 2), z (1 : Fin 2), eq_ix2 z⟩
  have hb := b.isLt
  have e0 : ((aPiece arg2 harg2 arg3 harg3 arg4 harg4 arg9 arg10 x1 x2 x3 n).1.emb (ix2 a b) (0 : Fin 2)) = a := by
    apply Fin.ext
    show 0 + 1 * a.val = _; omega
  have e1 : ((aPiece arg2 harg2 arg3 harg3 arg4 harg4 arg9 arg10 x1 x2 x3 n).1.emb (ix2 a b) (1 : Fin 2)) = (⟨n * 128 + b.val, by omega⟩ : Fin 24576) := by
    apply Fin.ext
    show n % 192 * 128 + 1 * b.val = n * 128 + b.val; omega
  unfold a8G
  rw [e0, e1]
  show quant8 (qOf arg2 harg2 arg3 harg3 arg4 harg4 arg9 arg10 x1 x2 x3 n) (ix2 a b) = _
  rw [quant8_apply, qOf_apply arg2 harg2 arg3 harg3 arg4 harg4 arg9 arg10 x1 x2 x3 x had h2 h1 h3 n hn a b ⟨n * 128 + b.val, by omega⟩ rfl]

include h1 h2 h3 in
theorem scale_apply (r : Fin 32) (l : Fin 128) : out0_A_6 c i arg1 harg1 arg2 harg2 arg3 harg3 arg4 harg4 arg5 harg5 arg6 harg6 arg7 harg7 arg8 harg8 arg9 harg9 arg10 harg10 arg11 harg11 arg12 harg12 arg13 harg13 x0 x1 x2 x3 (ix2 r l) = rowScale (outRow (x r) had) := by
  have hz : (![0, 0] : Fin 2 → Nat) = fun _ => 0 := by funext a; match a with | ⟨0, _⟩ => rfl | ⟨1, _⟩ => rfl
  unfold out0_A_6
  rw [View.read_writes_eq_canon _ _ _ (fun y => cover0_A_6 c i arg1 harg1 arg2 harg2 arg3 harg3 arg4 harg4 arg5 harg5 arg6 harg6 arg7 harg7 arg8 harg8 arg9 harg9 arg10 harg10 arg11 harg11 arg12 harg12 arg13 harg13 x0 x1 x2 x3 y), scale_eq, View.canon_unit_zero (S := S32x128) hz, wide_apply,
    sOf_apply arg2 harg2 arg3 harg3 arg4 harg4 arg9 x1 x2 x3 x had h2 h1 h3]

include h1 h2 h3 in
theorem zero_apply (r : Fin 32) (l : Fin 128) : out0_A_7 c i arg1 harg1 arg2 harg2 arg3 harg3 arg4 harg4 arg5 harg5 arg6 harg6 arg7 harg7 arg8 harg8 arg9 harg9 arg10 harg10 arg11 harg11 arg12 harg12 arg13 harg13 x0 x1 x2 x3 (ix2 r l) = rowZero (outRow (x r) had) := by
  have hz : (![0, 0] : Fin 2 → Nat) = fun _ => 0 := by funext a; match a with | ⟨0, _⟩ => rfl | ⟨1, _⟩ => rfl
  unfold out0_A_7
  rw [View.read_writes_eq_canon _ _ _ (fun y => cover0_A_7 c i arg1 harg1 arg2 harg2 arg3 harg3 arg4 harg4 arg5 harg5 arg6 harg6 arg7 harg7 arg8 harg8 arg9 harg9 arg10 harg10 arg11 harg11 arg12 harg12 arg13 harg13 x0 x1 x2 x3 y), zero_eq, View.canon_unit_zero (S := S32x128) hz, wide_apply,
    zOf_apply arg2 harg2 arg3 harg3 arg4 harg4 arg9 x1 x2 x3 x had h2 h1 h3]

end Cert.RotIdeal.Block
-- ==== Proof.RotArray.lean ====
/- The rotation kernel's four result arrays over the extended reals, at every input of real numbers: each row's rotation is
   quantised by itself, and the 192 points' blocks of 32 rows are the rows in order. -/
module

public import proofs.«01_k».proof.Proof.Gen.RotIdeal.Value
public import proofs.«01_k».proof.Proof.RotOut

@[expose] public section

set_option maxRecDepth 16384

noncomputable section

namespace Cert.RotIdeal.Block

open Cert.RotIdeal Cert.RotIdeal.Gen Cert.RotIdeal.Value Idealize.ShloMosaic Idealize.ShloMosaic.TcCoe Idealize.SL.Sem
open Idealize.ShloMosaic.Pipeline (Dat)
open Idealize.ShloMosaic.Pointwise Cert.Rotation

variable (m : (ℓ : Loc nD τ sig) → Buf (Elt Ideal) ℓ) (ρ : Dev nD → PrngReg)

/-- The rows and the matrix, as launched. -/
abbrev X (c : Dev nD) : Vec Ideal S6144x24576 .bf16 := m ((c : Thread nD τ).loc main_arg0)
abbrev H (c : Dev nD) : Vec Ideal S12x12 .f32 := m ((c : Thread nD τ).loc main_arg1)

/-! ## The host lines before the region -/

theorem V_had (c : Dev nD) (n : Fin 144) :
    (V m c main_v26 : Vec Ideal S144 .f32) (ix1 n) = H m c (ix2 ⟨n.val / 12, by have := n.isLt; omega⟩ ⟨n.val % 12, Nat.mod_lt _ (by decide)⟩) := by
  have e : (V m c main_v26 : Vec Ideal S144 .f32) = shapeCast S144 (H m c) shapeCasts_S12x12_S144 := by
    unfold_abbrev_sides
    after_results
    try rfl
  rw [e]
  pointwise

theorem V_sign (c : Dev nD) (i l : Fin 256) :
    (V m c main_v10 : Vec Ideal S256x256 .bf16) (ix2 i l) = (sign i.val l.val : EReal) := by
  have e : (V m c main_v10 : Vec Ideal S256x256 .bf16) = (sitofp .bf16 (subi (broadcastInDim S256x256 ![] bcast_S_S256x256 (constantI S_ 32 1#32))
      (muli (broadcastInDim S256x256 ![] bcast_S_S256x256 (constantI S_ 32 2#32)) (andi (ctpop (andi (iotaInDim S256x256 32 0) (iotaInDim S256x256 32 1)))
        (broadcastInDim S256x256 ![] bcast_S_S256x256 (constantI S_ 32 1#32))))) : FVec Ideal S256x256 .bf16) := by
    unfold_abbrev_sides
    after_results
    try rfl
  rw [e]
  unfold sign signWord
  pointwise
  rfl

/-! ## The blocks a point reads -/

theorem idx1 : ∀ t : Fin cfg0.N, win0_1.index t (0 : Fin 1) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)

theorem blk1 (c : Dev nD) (t : Fin cfg0.N) (n : Fin 144) :
    (iblk m c 1 t : Vec Ideal S144 .f32) (ix1 n) = H m c (ix2 ⟨n.val / 12, by have := n.isLt; omega⟩ ⟨n.val % 12, Nat.mod_lt _ (by decide)⟩) := by
  rw [← V_had m c n]
  unfold iblk
  rw [View.read_apply]
  show V m c main_v26 _ = _
  congr 1
  funext a; apply Fin.ext
  match a with
  | ⟨0, _⟩ => show win0_1.index t 0 * 144 + 1 * n.val = n.val; rw [idx1 t]; omega

theorem blk2 (c : Dev nD) (t : Fin cfg0.N) (r : Fin 32) (q : Fin 24576) :
    (iblk m c 2 t : Vec Ideal S32x24576 .bf16) (ix2 r q) = X m c (ix2 ⟨t.val * 32 + r.val, by have := lt_of_lt_of_eq t.isLt N_0; have := r.isLt; omega⟩ q) := by
  obtain ⟨e0, e1⟩ := idx2 t
  unfold iblk
  rw [View.read_apply]
  show V m c main_arg0 _ = _
  rw [V_main_arg0]
  congr 1
  funext a; apply Fin.ext
  match a with
  | ⟨0, _⟩ => show win0_2.index t 0 * 32 + 1 * r.val = t.val * 32 + r.val; rw [e0]; omega
  | ⟨1, _⟩ => show win0_2.index t 1 * 24576 + 1 * q.val = q.val; rw [e1]; omega

theorem blk3 (c : Dev nD) (t : Fin cfg0.N) (i l : Fin 256) :
    (iblk m c 3 t : Vec Ideal S256x256 .bf16) (ix2 i l) = (sign i.val l.val : EReal) := by
  obtain ⟨e0, e1⟩ := idx3 t
  rw [← V_sign m c i l]
  unfold iblk
  rw [View.read_apply]
  show V m c main_v10 _ = _
  congr 1
  funext a; apply Fin.ext
  match a with
  | ⟨0, _⟩ => show win0_3.index t 0 * 256 + 1 * i.val = i.val; rw [e0]; omega
  | ⟨1, _⟩ => show win0_3.index t 1 * 256 + 1 * l.val = l.val; rw [e1]; omega

/-! ## The arrays -/

variable (x : Fin 6144 → Nat → ℝ) (had : Nat → ℝ)

/-- The 32 rows of a point's block, as reals. -/
def rowsOf (t : Fin cfg0.N) (r : Fin 32) : Nat → ℝ := x ⟨t.val * 32 + r.val, by have := lt_of_lt_of_eq t.isLt N_0; have := r.isLt; omega⟩

theorem blk2_real (c : Dev nD) (hx : ∀ (i : Fin 6144) (q : Fin 24576), X m c (ix2 i q) = (x i q.val : EReal)) (t : Fin cfg0.N) (r : Fin 32) (q : Fin 24576) :
    (iblk m c 2 t : Vec Ideal S32x24576 .bf16) (ix2 r q) = (rowsOf x t r q.val : EReal) := (blk2 m c t r q).trans (hx _ q)

theorem blk1_real (c : Dev nD) (hh : ∀ j k : Fin 12, H m c (ix2 j k) = (had (j.val * 12 + k.val) : EReal)) (t : Fin cfg0.N) (n : Fin 144) :
    (iblk m c 1 t : Vec Ideal S144 .f32) (ix1 n) = (had n.val : EReal) := by
  rw [blk1, hh]
  show (had (n.val / 12 * 12 + n.val % 12) : EReal) = _
  rw [show n.val / 12 * 12 + n.val % 12 = n.val by omega]

theorem rowsOf_eq (i : Fin 6144) (ht : i.val / 32 < cfg0.N) (h : i.val % 32 < 32) : rowsOf x ⟨i.val / 32, ht⟩ ⟨i.val % 32, h⟩ = x i := by
  unfold rowsOf
  congr 1
  apply Fin.ext
  show i.val / 32 * 32 + i.val % 32 = i.val
  omega

/-- What a block moves, at the index with the same coordinates. -/
theorem cut_at (w : Pipeline.Window sig grid0) {α : Type} (i : grid0.Coords) (f : w.block.Idx → α) (j : (w.xblock i).Idx) (j' : w.block.Idx)
    (h : ∀ a, (j a).val = (j' a).val) : w.cut i f j = f j' :=
  congrArg f (funext fun a => Fin.ext (h a))

theorem arr_codes (c : Dev nD) (hx : ∀ (i : Fin 6144) (q : Fin 24576), X m c (ix2 i q) = (x i q.val : EReal))
    (hh : ∀ j k : Fin 12, H m c (ix2 j k) = (had (j.val * 12 + k.val) : EReal)) (i : Fin 6144) (q : Fin 24576) :
    ((dats m 0 c).arrAt 4 cfg0.N : Vec Ideal S6144x24576 .i8) (ix2 i q) = Ideal.fptosi 8 (rowCode (outRow (x i) had) q) := by
  have hi := i.isLt
  have ht : i.val / 32 < cfg0.N := lt_of_lt_of_eq (by omega : i.val / 32 < 192) N_0.symm
  obtain ⟨e0, e1⟩ := idx4 ⟨i.val / 32, ht⟩
  have h := congrFun (blocks4 m c ⟨i.val / 32, ht⟩ ((by decide +kernel : ∀ t : Fin grid0.N, (cfg0.win 4).flush t = true) _))
    (ix2 (⟨i.val % 32, Nat.mod_lt _ (by decide)⟩ : Fin 32) q)
  rw [View.read_apply, flushed4_A] at h
  have e : ((cfg0.win 4).blk ⟨i.val / 32, ht⟩).view.emb (ix2 (⟨i.val % 32, Nat.mod_lt _ (by decide)⟩ : Fin 32) q) = (ix2 i q : S6144x24576.Idx) := by
    funext a; apply Fin.ext
    match a with
    | ⟨0, _⟩ => show win0_4.index ⟨i.val / 32, ht⟩ 0 * 32 + 1 * (i.val % 32) = i.val; rw [e0]; show i.val / 32 * 32 + 1 * (i.val % 32) = i.val; omega
    | ⟨1, _⟩ => show win0_4.index ⟨i.val / 32, ht⟩ 1 * 24576 + 1 * q.val = q.val; rw [e1]; omega
  rw [e] at h
  have k := codes_apply (ms0_1 ⟨i.val / 32, ht⟩) (hs0_1 ⟨i.val / 32, ht⟩) (ms0_2 ⟨i.val / 32, ht⟩) (hs0_2 ⟨i.val / 32, ht⟩) (ms0_3 ⟨i.val / 32, ht⟩) (hs0_3 ⟨i.val / 32, ht⟩) scM0_0 scM0_1
    (iblk m c 1 ⟨i.val / 32, ht⟩) (iblk m c 2 ⟨i.val / 32, ht⟩) (iblk m c 3 ⟨i.val / 32, ht⟩) (rowsOf x ⟨i.val / 32, ht⟩) had (blk2_real m x c hx ⟨i.val / 32, ht⟩) (blk1_real m had c hh ⟨i.val / 32, ht⟩)
    (blk3 m c ⟨i.val / 32, ht⟩) c (grid0.coords ⟨i.val / 32, ht⟩) (ms0_0 ⟨i.val / 32, ht⟩) (hs0_0 ⟨i.val / 32, ht⟩) (ms0_4 ⟨i.val / 32, ht⟩) (hs0_4 ⟨i.val / 32, ht⟩)
    (ms0_5 ⟨i.val / 32, ht⟩) (hs0_5 ⟨i.val / 32, ht⟩) (ms0_6 ⟨i.val / 32, ht⟩) (hs0_6 ⟨i.val / 32, ht⟩) (ms0_7 ⟨i.val / 32, ht⟩) (hs0_7 ⟨i.val / 32, ht⟩)
    (Memref.isWhole_whole _) (Memref.isWhole_whole _) scM0_2 (Memref.isWhole_whole _) scM0_3 (Memref.isWhole_whole _) scM0_4 (Memref.isWhole_whole _) (iblk m c 0 ⟨i.val / 32, ht⟩)
    (⟨i.val % 32, Nat.mod_lt _ (by decide)⟩ : Fin 32) q
  unfold codesG at k
  replace k := k.trans (show _ = Ideal.fptosi 8 (rowCode (outRow (rowsOf x ⟨i.val / 32, ht⟩ ⟨i.val % 32, Nat.mod_lt _ (by decide)⟩) had) q) from rfl)
  rw [rowsOf_eq] at k
  rw [cast_eq] at h
  refine Eq.trans (h.trans (cut_at _ _ _ _ _ ?_)) k
  intro a
  match a with
  | ⟨0, _⟩ => rfl
  | ⟨1, _⟩ => rfl

theorem arr_a8 (c : Dev nD) (hx : ∀ (i : Fin 6144) (q : Fin 24576), X m c (ix2 i q) = (x i q.val : EReal))
    (hh : ∀ j k : Fin 12, H m c (ix2 j k) = (had (j.val * 12 + k.val) : EReal)) (i : Fin 6144) (q : Fin 24576) :
    ((dats m 0 c).arrAt 5 cfg0.N : Vec Ideal S6144x24576 .fp8e4m3) (ix2 i q) = (rowCode (outRow (x i) had) q : EReal) := by
  have hi := i.isLt
  have ht : i.val / 32 < cfg0.N := lt_of_lt_of_eq (by omega : i.val / 32 < 192) N_0.symm
  obtain ⟨e0, e1⟩ := idx5 ⟨i.val / 32, ht⟩
  have h := congrFun (blocks5 m c ⟨i.val / 32, ht⟩ ((by decide +kernel : ∀ t : Fin grid0.N, (cfg0.win 5).flush t = true) _))
    (ix2 (⟨i.val % 32, Nat.mod_lt _ (by decide)⟩ : Fin 32) q)
  rw [View.read_apply, flushed5_A] at h
  have e : ((cfg0.win 5).blk ⟨i.val / 32, ht⟩).view.emb (ix2 (⟨i.val % 32, Nat.mod_lt _ (by decide)⟩ : Fin 32) q) = (ix2 i q : S6144x24576.Idx) := by
    funext a; apply Fin.ext
    match a with
    | ⟨0, _⟩ => show win0_5.index ⟨i.val / 32, ht⟩ 0 * 32 + 1 * (i.val % 32) = i.val; rw [e0]; show i.val / 32 * 32 + 1 * (i.val % 32) = i.val; omega
    | ⟨1, _⟩ => show win0_5.index ⟨i.val / 32, ht⟩ 1 * 24576 + 1 * q.val = q.val; rw [e1]; omega
  rw [e] at h
  have k := a8_apply (ms0_1 ⟨i.val / 32, ht⟩) (hs0_1 ⟨i.val / 32, ht⟩) (ms0_2 ⟨i.val / 32, ht⟩) (hs0_2 ⟨i.val / 32, ht⟩) (ms0_3 ⟨i.val / 32, ht⟩) (hs0_3 ⟨i.val / 32, ht⟩) scM0_0 scM0_1
    (iblk m c 1 ⟨i.val / 32, ht⟩) (iblk m c 2 ⟨i.val / 32, ht⟩) (iblk m c 3 ⟨i.val / 32, ht⟩) (rowsOf x ⟨i.val / 32, ht⟩) had (blk2_real m x c hx ⟨i.val / 32, ht⟩) (blk1_real m had c hh ⟨i.val / 32, ht⟩)
    (blk3 m c ⟨i.val / 32, ht⟩) c (grid0.coords ⟨i.val / 32, ht⟩) (ms0_0 ⟨i.val / 32, ht⟩) (hs0_0 ⟨i.val / 32, ht⟩) (ms0_4 ⟨i.val / 32, ht⟩) (hs0_4 ⟨i.val / 32, ht⟩)
    (ms0_5 ⟨i.val / 32, ht⟩) (hs0_5 ⟨i.val / 32, ht⟩) (ms0_6 ⟨i.val / 32, ht⟩) (hs0_6 ⟨i.val / 32, ht⟩) (ms0_7 ⟨i.val / 32, ht⟩) (hs0_7 ⟨i.val / 32, ht⟩)
    (Memref.isWhole_whole _) (Memref.isWhole_whole _) scM0_2 (Memref.isWhole_whole _) scM0_3 (Memref.isWhole_whole _) scM0_4 (Memref.isWhole_whole _) (iblk m c 0 ⟨i.val / 32, ht⟩)
    (⟨i.val % 32, Nat.mod_lt _ (by decide)⟩ : Fin 32) q
  unfold a8G at k
  replace k := k.trans (show _ = (rowCode (outRow (rowsOf x ⟨i.val / 32, ht⟩ ⟨i.val % 32, Nat.mod_lt _ (by decide)⟩) had) q : EReal) from rfl)
  rw [rowsOf_eq] at k
  rw [cast_eq] at h
  refine Eq.trans (h.trans (cut_at _ _ _ _ _ ?_)) k
  intro a
  match a with
  | ⟨0, _⟩ => rfl
  | ⟨1, _⟩ => rfl

theorem arr_scale (c : Dev nD) (hx : ∀ (i : Fin 6144) (q : Fin 24576), X m c (ix2 i q) = (x i q.val : EReal))
    (hh : ∀ j k : Fin 12, H m c (ix2 j k) = (had (j.val * 12 + k.val) : EReal)) (i : Fin 6144) (q : Fin 128) :
    ((dats m 0 c).arrAt 6 cfg0.N : Vec Ideal S6144x128 .f32) (ix2 i q) = rowScale (outRow (x i) had) := by
  have hi := i.isLt
  have ht : i.val / 32 < cfg0.N := lt_of_lt_of_eq (by omega : i.val / 32 < 192) N_0.symm
  obtain ⟨e0, e1⟩ := idx6 ⟨i.val / 32, ht⟩
  have h := congrFun (blocks6 m c ⟨i.val / 32, ht⟩ ((by decide +kernel : ∀ t : Fin grid0.N, (cfg0.win 6).flush t = true) _))
    (ix2 (⟨i.val % 32, Nat.mod_lt _ (by decide)⟩ : Fin 32) q)
  rw [View.read_apply, flushed6_A] at h
  have e : ((cfg0.win 6).blk ⟨i.val / 32, ht⟩).view.emb (ix2 (⟨i.val % 32, Nat.mod_lt _ (by decide)⟩ : Fin 32) q) = (ix2 i q : S6144x128.Idx) := by
    funext a; apply Fin.ext
    match a with
    | ⟨0, _⟩ => show win0_6.index ⟨i.val / 32, ht⟩ 0 * 32 + 1 * (i.val % 32) = i.val; rw [e0]; show i.val / 32 * 32 + 1 * (i.val % 32) = i.val; omega
    | ⟨1, _⟩ => show win0_6.index ⟨i.val / 32, ht⟩ 1 * 128 + 1 * q.val = q.val; rw [e1]; omega
  rw [e] at h
  have k := scale_apply (ms0_1 ⟨i.val / 32, ht⟩) (hs0_1 ⟨i.val / 32, ht⟩) (ms0_2 ⟨i.val / 32, ht⟩) (hs0_2 ⟨i.val / 32, ht⟩) (ms0_3 ⟨i.val / 32, ht⟩) (hs0_3 ⟨i.val / 32, ht⟩) scM0_0 scM0_1
    (iblk m c 1 ⟨i.val / 32, ht⟩) (iblk m c 2 ⟨i.val / 32, ht⟩) (iblk m c 3 ⟨i.val / 32, ht⟩) (rowsOf x ⟨i.val / 32, ht⟩) had (blk2_real m x c hx ⟨i.val / 32, ht⟩) (blk1_real m had c hh ⟨i.val / 32, ht⟩)
    (blk3 m c ⟨i.val / 32, ht⟩) c (grid0.coords ⟨i.val / 32, ht⟩) (ms0_0 ⟨i.val / 32, ht⟩) (hs0_0 ⟨i.val / 32, ht⟩) (ms0_4 ⟨i.val / 32, ht⟩) (hs0_4 ⟨i.val / 32, ht⟩)
    (ms0_5 ⟨i.val / 32, ht⟩) (hs0_5 ⟨i.val / 32, ht⟩) (ms0_6 ⟨i.val / 32, ht⟩) (hs0_6 ⟨i.val / 32, ht⟩) (ms0_7 ⟨i.val / 32, ht⟩) (hs0_7 ⟨i.val / 32, ht⟩)
    (Memref.isWhole_whole _) (Memref.isWhole_whole _) scM0_2 (Memref.isWhole_whole _) scM0_3 (Memref.isWhole_whole _) scM0_4 (Memref.isWhole_whole _) (iblk m c 0 ⟨i.val / 32, ht⟩)
    (⟨i.val % 32, Nat.mod_lt _ (by decide)⟩ : Fin 32) q

  rw [rowsOf_eq] at k
  rw [cast_eq] at h
  refine Eq.trans (h.trans (cut_at _ _ _ _ _ ?_)) k
  intro a
  match a with
  | ⟨0, _⟩ => rfl
  | ⟨1, _⟩ => rfl

theorem arr_zero (c : Dev nD) (hx : ∀ (i : Fin 6144) (q : Fin 24576), X m c (ix2 i q) = (x i q.val : EReal))
    (hh : ∀ j k : Fin 12, H m c (ix2 j k) = (had (j.val * 12 + k.val) : EReal)) (i : Fin 6144) (q : Fin 128) :
    ((dats m 0 c).arrAt 7 cfg0.N : Vec Ideal S6144x128 .f32) (ix2 i q) = rowZero (outRow (x i) had) := by
  have hi := i.isLt
  have ht : i.val / 32 < cfg0.N := lt_of_lt_of_eq (by omega : i.val / 32 < 192) N_0.symm
  obtain ⟨e0, e1⟩ := idx7 ⟨i.val / 32, ht⟩
  have h := congrFun (blocks7 m c ⟨i.val / 32, ht⟩ ((by decide +kernel : ∀ t : Fin grid0.N, (cfg0.win 7).flush t = true) _))
    (ix2 (⟨i.val % 32, Nat.mod_lt _ (by decide)⟩ : Fin 32) q)
  rw [View.read_apply, flushed7_A] at h
  have e : ((cfg0.win 7).blk ⟨i.val / 32, ht⟩).view.emb (ix2 (⟨i.val % 32, Nat.mod_lt _ (by decide)⟩ : Fin 32) q) = (ix2 i q : S6144x128.Idx) := by
    funext a; apply Fin.ext
    match a with
    | ⟨0, _⟩ => show win0_7.index ⟨i.val / 32, ht⟩ 0 * 32 + 1 * (i.val % 32) = i.val; rw [e0]; show i.val / 32 * 32 + 1 * (i.val % 32) = i.val; omega
    | ⟨1, _⟩ => show win0_7.index ⟨i.val / 32, ht⟩ 1 * 128 + 1 * q.val = q.val; rw [e1]; omega
  rw [e] at h
  have k := zero_apply (ms0_1 ⟨i.val / 32, ht⟩) (hs0_1 ⟨i.val / 32, ht⟩) (ms0_2 ⟨i.val / 32, ht⟩) (hs0_2 ⟨i.val / 32, ht⟩) (ms0_3 ⟨i.val / 32, ht⟩) (hs0_3 ⟨i.val / 32, ht⟩) scM0_0 scM0_1
    (iblk m c 1 ⟨i.val / 32, ht⟩) (iblk m c 2 ⟨i.val / 32, ht⟩) (iblk m c 3 ⟨i.val / 32, ht⟩) (rowsOf x ⟨i.val / 32, ht⟩) had (blk2_real m x c hx ⟨i.val / 32, ht⟩) (blk1_real m had c hh ⟨i.val / 32, ht⟩)
    (blk3 m c ⟨i.val / 32, ht⟩) c (grid0.coords ⟨i.val / 32, ht⟩) (ms0_0 ⟨i.val / 32, ht⟩) (hs0_0 ⟨i.val / 32, ht⟩) (ms0_4 ⟨i.val / 32, ht⟩) (hs0_4 ⟨i.val / 32, ht⟩)
    (ms0_5 ⟨i.val / 32, ht⟩) (hs0_5 ⟨i.val / 32, ht⟩) (ms0_6 ⟨i.val / 32, ht⟩) (hs0_6 ⟨i.val / 32, ht⟩) (ms0_7 ⟨i.val / 32, ht⟩) (hs0_7 ⟨i.val / 32, ht⟩)
    (Memref.isWhole_whole _) (Memref.isWhole_whole _) scM0_2 (Memref.isWhole_whole _) scM0_3 (Memref.isWhole_whole _) scM0_4 (Memref.isWhole_whole _) (iblk m c 0 ⟨i.val / 32, ht⟩)
    (⟨i.val % 32, Nat.mod_lt _ (by decide)⟩ : Fin 32) q

  rw [rowsOf_eq] at k
  rw [cast_eq] at h
  refine Eq.trans (h.trans (cut_at _ _ _ _ _ ?_)) k
  intro a
  match a with
  | ⟨0, _⟩ => rfl
  | ⟨1, _⟩ => rfl

end Cert.RotIdeal.Block
-- ==== Proof.RotRefValue.lean ====
/- The reference of the rotation and quantisation: its one block is the whole of every array, so its four results are the
   plain formulas of the rotated rows, read here at an index over the extended reals. -/
module

public import proofs.«01_k».proof.Proof.Gen.RotRefIdeal.Value
public import proofs.«01_k».proof.Proof.Quantise
public import proofs.«01_k».proof.Proof.Rotation

@[expose] public section

set_option maxRecDepth 16384

noncomputable section

namespace Cert.RotRefIdeal.Block

open Cert.RotRefIdeal Cert.RotRefIdeal.Gen Cert.RotRefIdeal.Value Idealize.ShloMosaic Idealize.ShloMosaic.TcCoe Idealize.SL.Sem
open Idealize.ShloMosaic.Pipeline (Dat)
open Idealize.ShloMosaic.Pointwise Cert.Rotation

/-! ## The quantiser's lines, over any scale and zero column -/

theorem fold_least {n : Nat} (f : Fin n → EReal) : Finset.fold min (Ideal.ofBits .f32 0x7F800000#32) f Finset.univ = least f := by
  have h : Ideal.ofBits .f32 0x7F800000#32 = (⊤ : EReal) := by simp [Ideal.ofBits, Ideal.ieee]
  rw [h]; rfl

theorem fold_greatest {n : Nat} (f : Fin n → EReal) : Finset.fold max (Ideal.ofBits .f32 0xFF800000#32) f Finset.univ = greatest f := by
  have h : Ideal.ofBits .f32 0xFF800000#32 = (⊥ : EReal) := by simp [Ideal.ofBits, Ideal.ieee]
  rw [h]; rfl

theorem pay2_apply (R : Vec Ideal S6144x24576 .f32) (i : Fin 6144) :
    k0_pay2 R (ix2 i 0) = least fun q : Fin 24576 => R (ix2 i q) := by
  pointwise [k0_pay2, k0_pay1]
  exact fold_least _

/-- The column of greatest entries. -/
def mxCol (R : Vec Ideal S6144x24576 .f32) : FVec Ideal S6144x1 .f32 :=
  shapeCast S6144x1 (multiReduction .maximumf [1] S6144 (k0_pay1 R) 0xFF800000#32 reduces_S6144x24576_S6144 (.inl rfl) rfl) shapeCasts_S6144_S6144x1

theorem mxCol_apply (R : Vec Ideal S6144x24576 .f32) (i : Fin 6144) :
    mxCol R (ix2 i 0) = greatest fun q : Fin 24576 => R (ix2 i q) := by
  pointwise [mxCol, k0_pay1]
  exact fold_greatest _

/-- The scale lines. -/
def scaleCol (mn mx : FVec Ideal S6144x1 .f32) : FVec Ideal S6144x1 .f32 :=
  select (cmpf .oeq mx mn) (broadcast S6144x1 (Scalar.ofBits .f32 0x3F800000#32))
    (divf (subf mx mn) (broadcast S6144x1 (Scalar.ofBits .f32 0x41700000#32)))

theorem scaleCol_apply (mn mx : FVec Ideal S6144x1 .f32) (i : Fin 6144) :
    scaleCol mn mx (ix2 i 0) = scaleOf (mn (ix2 i 0)) (mx (ix2 i 0)) := by
  unfold scaleOf
  rw [Ideal.ofBits_one_f32]
  pointwise [scaleCol]

theorem pay3_eq (R : Vec Ideal S6144x24576 .f32) : k0_pay3 R = scaleCol (k0_pay2 R) (mxCol R) := by
  unfold k0_pay3 scaleCol mxCol; rfl

/-- The zero-point lines. -/
def zeroCol (mn s : FVec Ideal S6144x1 .f32) : FVec Ideal S6144x1 .f32 :=
  roundeven (divf (subf (broadcast S6144x1 (Scalar.ofBits .f32 0x00000000#32)) mn) s)

theorem zeroCol_apply (mn s : FVec Ideal S6144x1 .f32) (i : Fin 6144) :
    zeroCol mn s (ix2 i 0) = zeroOf (mn (ix2 i 0)) (s (ix2 i 0)) := by
  unfold zeroOf
  pointwise [zeroCol]

theorem pay4_eq (R : Vec Ideal S6144x24576 .f32) : k0_pay4 R = zeroCol (k0_pay2 R) (k0_pay3 R) := by
  unfold k0_pay4 zeroCol; rfl

/-- The code lines. -/
def codeArr (R : Vec Ideal S6144x24576 .f32) (s z : FVec Ideal S6144x1 .f32) : IVec S6144x24576 8 :=
  fptosi 8 (minimumf (broadcast S6144x24576 (Scalar.sitofp .f32 15#32)) (maximumf (broadcast S6144x24576 (Scalar.sitofp .f32 0#32))
    (addf (roundeven (divf (k0_pay1 R) (broadcastTo S6144x24576 s broadcasts_S6144x1_S6144x24576)))
      (broadcastTo S6144x24576 z broadcasts_S6144x1_S6144x24576))))

theorem clip_lo : ((((0#32 : BitVec 32).toInt : ℝ)) : EReal) = 0 := by simp
theorem clip_hi : ((((15#32 : BitVec 32).toInt : ℝ)) : EReal) = 15 := by
  have : (15#32 : BitVec 32).toInt = 15 := by decide
  rw [this]; norm_num; rfl

theorem codeArr_apply (R : Vec Ideal S6144x24576 .f32) (s z : FVec Ideal S6144x1 .f32) (i : Fin 6144) (q : Fin 24576) :
    codeArr R s z (ix2 i q) = Ideal.fptosi 8 (codeOf (Ideal.div (R (ix2 i q)) (s (ix2 i 0))) (z (ix2 i 0))) := by
  unfold codeOf
  rw [← clip_lo, ← clip_hi]
  pointwise [codeArr, k0_pay1]
  rfl

theorem pay5_eq (R : Vec Ideal S6144x24576 .f32) : k0_pay5 R = codeArr R (k0_pay3 R) (k0_pay4 R) := by
  unfold k0_pay5 codeArr; rfl

theorem codeArr_f8 (w : IVec S6144x24576 8) (i : Fin 6144) (q : Fin 24576) :
    truncf .fp8e4m3 (sitofp (F := Ideal) .bf16 w) bitsLt_fp8e4m3_bf16 (ix2 i q) = (((w (ix2 i q)).toInt : ℝ) : EReal) := by
  rfl

theorem wide_apply (s : FVec Ideal S6144x1 .f32) (i : Fin 6144) (l : Fin 128) :
    broadcastTo S6144x128 (shapeCast S6144x1 s shapeCasts_S6144x1_S6144x1) broadcasts_S6144x1_S6144x128 (ix2 i l) = s (ix2 i 0) := by
  pointwise

/-! ## Each window's one block is its whole array -/

theorem hz : (![0, 0] : Fin 2 → Nat) = fun _ => 0 := funext fun a => by fin_cases a <;> rfl

variable (m : (ℓ : Loc nD τ sig) → Buf (Elt Ideal) ℓ)

abbrev t0 : Fin cfg0.N := ⟨0, by rw [show cfg0.N = 1 from N_0]; decide⟩

/-- The rotated rows, before the region. -/
abbrev rows (c : Dev nD) : Vec Ideal S6144x24576 .f32 := V m c main_v18

theorem blk0 (c : Dev nD) : (iblk m c 0 t0 : Vec Ideal S6144x24576 .f32) = rows m c := by
  have hz' : (fun a => win0_0.index t0 a * main_v18.ty.shape.size a) = fun _ => 0 := funext fun a => by fin_cases a <;> decide +kernel
  exact (Memref.read_access_unit_zero (Elt Ideal) main_v18 hz' (fun a => by rw [congrFun hz' a]; simp) (V m c main_v18))

theorem arr1 (c : Dev nD) : (dats m 0 c).arrAt 1 cfg0.N = k0_pay5 (rows m c) := by
  have hz' : (fun a => win0_1.index t0 a * main_v19_0.ty.shape.size a) = fun _ => 0 := funext fun a => by fin_cases a <;> decide +kernel
  have h := blocks1 m c t0 (by decide +kernel)
  rw [flushed1, blk0] at h
  refine (Memref.read_access_unit_zero (Elt Ideal) main_v19_0 hz' (fun a => by rw [congrFun hz' a]; simp) _).symm.trans (h.trans ?_)
  unfold out0_1
  rw [View.canon_unit_zero (S := S6144x24576) hz, View.ld_unit_zero (S := S6144x24576) hz]
  rfl

theorem arr2 (c : Dev nD) : (dats m 0 c).arrAt 2 cfg0.N = k0_pay6 (rows m c) := by
  have hz' : (fun a => win0_2.index t0 a * main_v19_1.ty.shape.size a) = fun _ => 0 := funext fun a => by fin_cases a <;> decide +kernel
  have h := blocks2 m c t0 (by decide +kernel)
  rw [flushed2, blk0] at h
  refine (Memref.read_access_unit_zero (Elt Ideal) main_v19_1 hz' (fun a => by rw [congrFun hz' a]; simp) _).symm.trans (h.trans ?_)
  unfold out0_2
  rw [View.canon_unit_zero (S := S6144x24576) hz, View.ld_unit_zero (S := S6144x24576) hz]
  rfl

theorem arr3 (c : Dev nD) : (dats m 0 c).arrAt 3 cfg0.N = k0_pay7 (rows m c) := by
  have hz' : (fun a => win0_3.index t0 a * main_v19_2.ty.shape.size a) = fun _ => 0 := funext fun a => by fin_cases a <;> decide +kernel
  have h := blocks3 m c t0 (by decide +kernel)
  rw [flushed3, blk0] at h
  refine (Memref.read_access_unit_zero (Elt Ideal) main_v19_2 hz' (fun a => by rw [congrFun hz' a]; simp) _).symm.trans (h.trans ?_)
  unfold out0_3
  rw [View.canon_unit_zero (S := S6144x128) hz, View.ld_unit_zero (S := S6144x24576) hz]
  rfl

theorem arr4 (c : Dev nD) : (dats m 0 c).arrAt 4 cfg0.N = k0_pay8 (rows m c) := by
  have hz' : (fun a => win0_4.index t0 a * main_v19_3.ty.shape.size a) = fun _ => 0 := funext fun a => by fin_cases a <;> decide +kernel
  have h := blocks4 m c t0 (by decide +kernel)
  rw [flushed4, blk0] at h
  refine (Memref.read_access_unit_zero (Elt Ideal) main_v19_3 hz' (fun a => by rw [congrFun hz' a]; simp) _).symm.trans (h.trans ?_)
  unfold out0_4
  rw [View.canon_unit_zero (S := S6144x128) hz, View.ld_unit_zero (S := S6144x24576) hz]
  rfl

/-! ## The rotated rows -/

/-- The rows and the matrix, as launched. -/
abbrev X (c : Dev nD) : Vec Ideal S6144x24576 .bf16 := m ((c : Thread nD τ).loc main_arg0)
abbrev H (c : Dev nD) : Vec Ideal S12x12 .f32 := m ((c : Thread nD τ).loc main_arg1)

theorem rows_apply (c : Dev nD) (i : Fin 6144) (q : Fin 24576) :
    rows m c (ix2 i q) = (∑ k : Fin 12, (∑ p : Fin 2048, X m c (ix2 i ⟨k.val * 2048 + p.val, by omega⟩) * (sign (q.val % 2048) p.val : EReal))
      * H m c (ix2 ⟨q.val / 2048, by omega⟩ k)) * Rotation.inv := by
  have e : rows m c = shapeCast S6144x24576 (mulf (transpose S6144x12x2048 [0, 2, 1]
      (Host.dotGeneral (F := Ideal) (φ₁ := .f32) (φ₂ := .f32) dot_S6144x12x2048_S12x12_S6144x2048x12_1_1_02_0_n_n (some .fp32)
        (Host.dotGeneral (F := Ideal) (φ₁ := .f32) (φ₂ := .f32) dot_S6144x12x2048_S2048x2048_S6144x12x2048_2_1_01_0_n_n (some .fp32)
          (shapeCast S6144x12x2048 (extf .f32 (X m c) bitsLt_bf16_f32) shapeCasts_S6144x24576_S6144x12x2048)
          (sitofp .f32 (subi (broadcastInDim S2048x2048 ![] bcast_S_S2048x2048 (constantI S_ 32 1#32))
      (muli (broadcastInDim S2048x2048 ![] bcast_S_S2048x2048 (constantI S_ 32 2#32)) (andi (ctpop (andi (iotaInDim S2048x2048 32 0) (iotaInDim S2048x2048 32 1)))
        (broadcastInDim S2048x2048 ![] bcast_S_S2048x2048 (constantI S_ 32 1#32)))))))
        (H m c)) transposes_S6144x2048x12_S6144x12x2048_0_2_1)
      (broadcastInDim S6144x12x2048 ![] bcast_S_S6144x12x2048 (constant S_ .f32 0x3BD105EC#32))) shapeCasts_S6144x12x2048_S6144x24576 := by
    unfold_abbrev_sides
    after_results
    rfl
  rw [e]
  unfold sign signWord Rotation.inv
  pointwise
  rfl

end Cert.RotRefIdeal.Block
-- ==== Proof.RotFinite.lean ====
/- The precondition says that every entry of the rows and of the matrix is a real number. -/
module

public import proofs.«01_k».proof.Proof.Gen.Pre_finite
public import Idealize.ShloMosaic.Lib.ReduceAll
public import Idealize.ShloMosaic.Lib.IdealHost
public import Idealize.ShloMosaic.Lib.Pointwise

@[expose] public section

noncomputable section

namespace Cert.RotFinite

open Cert.Pre_finite Cert.Pre_finite.Gen Idealize.ShloMosaic Idealize.ShloMosaic.Pointwise

instance : Subsingleton S_.Idx := ⟨fun a b => funext fun i => i.elim0⟩

theorem real_of_lt {v : EReal} (h : max v (-v) < ⊤) : ∃ r : ℝ, v = (r : EReal) := by
  induction v using EReal.rec with
  | bot => simp at h
  | coe r => exact ⟨r, rfl⟩
  | top => simp at h

theorem real_of_cmp {v : EReal} (h : Ideal.cmp .olt (max v (-v)) (Ideal.ofBits .f32 0x7F800000#32) = 1#1) : ∃ r : ℝ, v = (r : EReal) := by
  have t : Ideal.ofBits .f32 0x7F800000#32 = (⊤ : EReal) := by simp [Ideal.ofBits, Ideal.ieee]
  rw [t] at h
  apply real_of_lt
  by_contra hn
  simp [Ideal.cmp, hn] at h

theorem entries (x : FVec Ideal S6144x24576 .bf16) (had : FVec Ideal S12x12 .f32) (h : fn x had = fun _ => 1#1) :
    (∀ i, ∃ r : ℝ, x i = (r : EReal)) ∧ ∀ i, ∃ r : ℝ, had i = (r : EReal) := by
  have h0 := congrFun h (Shape.Idx.first h_S_)
  unfold fn at h0
  simp only [] at h0
  obtain ⟨a, b⟩ := IntOp.andi_eq_one.mp h0
  exact ⟨fun i => real_of_cmp (Host.reduce_andi_all _ _ _ _ _ a i), fun i => real_of_cmp (Host.reduce_andi_all _ _ _ _ _ b i)⟩

end Cert.RotFinite

end
-- ==== Proof.RotEq.lean ====
/- The kernel's rotation and quantisation equal the reference's over the extended reals, at every input of real numbers. -/
module

public import proofs.«01_k».proof.Defs
public import proofs.«01_k».proof.Proof.RotArray
public import proofs.«01_k».proof.Proof.RotRefValue
public import proofs.«01_k».proof.Proof.RotFinite

@[expose] public section

noncomputable section

/-! ## The reference's results, at rows and a matrix of real numbers -/

namespace Cert.RotRefIdeal.Block

open Cert.RotRefIdeal Cert.RotRefIdeal.Gen Cert.RotRefIdeal.Value Idealize.ShloMosaic Idealize.ShloMosaic.TcCoe Idealize.SL.Sem
open Idealize.ShloMosaic.Pipeline (Dat)
open Idealize.ShloMosaic.Pointwise Cert.Rotation

variable (m : (ℓ : Loc nD τ sig) → Buf (Elt Ideal) ℓ) (x : Fin 6144 → Nat → ℝ) (had : Nat → ℝ)

theorem rows_real (c : Dev nD) (hx : ∀ (i : Fin 6144) (q : Fin 24576), X m c (ix2 i q) = (x i q.val : EReal))
    (hh : ∀ j k : Fin 12, H m c (ix2 j k) = (had (j.val * 12 + k.val) : EReal)) (i : Fin 6144) :
    (fun q : Fin 24576 => rows m c (ix2 i q)) = outRow (x i) had := by
  funext q
  rw [rows_apply]
  unfold outRow rotRow rotated turned
  refine congrArg (fun v : EReal => v * Rotation.inv) ?_
  rw [← coe_sum]
  refine Finset.sum_congr rfl fun k _ => ?_
  rw [hh, EReal.coe_mul, mul_comm, ← coe_sum]
  refine congrArg (fun v : EReal => _ * v) ?_
  refine Finset.sum_congr rfl fun p _ => ?_
  rw [hx, EReal.coe_mul, mul_comm]

section
variable (c : Dev nD) (i : Fin 6144) (R : Fin 24576 → EReal) (hR : (fun q : Fin 24576 => rows m c (ix2 i q)) = R)
include hR

theorem scale_at : k0_pay3 (rows m c) (ix2 i 0) = rowScale R := by
  rw [pay3_eq, scaleCol_apply, pay2_apply, mxCol_apply, hR]; rfl

theorem zero_at : k0_pay4 (rows m c) (ix2 i 0) = rowZero R := by
  rw [pay4_eq, zeroCol_apply, pay2_apply, scale_at m c i R hR, hR]; rfl

theorem code_at (q : Fin 24576) : k0_pay5 (rows m c) (ix2 i q) = Ideal.fptosi 8 (rowCode R q) := by
  rw [pay5_eq, codeArr_apply, scale_at m c i R hR, zero_at m c i R hR, show rows m c (ix2 i q) = R q from congrFun hR q]; rfl

end

end Cert.RotRefIdeal.Block

/-! ## The equation -/

namespace Cert.RotEq

open Idealize.ShloMosaic Idealize.ShloMosaic.TcCoe Idealize.ShloMosaic.Pointwise Idealize.SL.Sem Cert.Rotation

theorem algebraic : Cert.algebraic_RotIdeal_RotRefIdeal_pre_finite := by
  intro m ρ m' ρ' hp hag
  have real : ∀ c : Dev Cert.RotIdeal.nD, ∃ (x : Fin 6144 → Nat → ℝ) (had : Nat → ℝ),
      (∀ (i : Fin 6144) (q : Fin 24576), Cert.RotIdeal.Block.X m c (ix2 i q) = (x i q.val : EReal))
      ∧ ∀ j k : Fin 12, Cert.RotIdeal.Block.H m c (ix2 j k) = (had (j.val * 12 + k.val) : EReal) := by
    intro c
    obtain ⟨ex, eh⟩ := Cert.RotFinite.entries _ _ (hp c)
    refine ⟨fun i n => if h : n < 24576 then (Cert.RotIdeal.Block.X m c (ix2 i ⟨n, h⟩) : EReal).toReal else 0,
      fun n => if h : n < 144 then (Cert.RotIdeal.Block.H m c (ix2 ⟨n / 12, by omega⟩ ⟨n % 12, Nat.mod_lt _ (by decide)⟩) : EReal).toReal else 0,
      fun i q => ?_, fun j k => ?_⟩
    · obtain ⟨r, hr⟩ := ex (ix2 i q)
      replace hr : Cert.RotIdeal.Block.X m c (ix2 i q) = (r : EReal) := hr
      beta_reduce
      rw [dif_pos q.isLt, show (⟨q.val, q.isLt⟩ : Fin 24576) = q from rfl, hr, EReal.toReal_coe]
    · obtain ⟨r, hr⟩ := eh (ix2 j k)
      replace hr : Cert.RotIdeal.Block.H m c (ix2 j k) = (r : EReal) := hr
      have hj := j.isLt
      have hk := k.isLt
      beta_reduce
      rw [dif_pos (by omega : j.val * 12 + k.val < 144)]
      have e1 : (⟨(j.val * 12 + k.val) / 12, by omega⟩ : Fin 12) = j := Fin.ext (by show (j.val * 12 + k.val) / 12 = j.val; omega)
      have e2 : (⟨(j.val * 12 + k.val) % 12, Nat.mod_lt _ (by decide)⟩ : Fin 12) = k := Fin.ext (by show (j.val * 12 + k.val) % 12 = k.val; omega)
      rw [e1, e2, hr, EReal.toReal_coe]
  refine ⟨fun c => (Cert.RotIdeal.Gen.dats m 0 c).arrAt 4 Cert.RotIdeal.cfg0.N, fun c => (Cert.RotIdeal.Gen.dats m 0 c).arrAt 5 Cert.RotIdeal.cfg0.N,
    fun c => (Cert.RotIdeal.Gen.dats m 0 c).arrAt 6 Cert.RotIdeal.cfg0.N, fun c => (Cert.RotIdeal.Gen.dats m 0 c).arrAt 7 Cert.RotIdeal.cfg0.N,
    Cert.RotIdeal.Value.run_blocks m ρ, ?_⟩
  refine (θ_run _ _ _).mono (fun r h c => ?_) (Cert.RotRefIdeal.Value.run_blocks m' ρ')
  obtain ⟨h0, h1, h2, h3, ha⟩ := h c
  obtain ⟨x, had, hx, hh⟩ := real c
  obtain ⟨a0, a1⟩ := hag c
  have hx' : ∀ (i : Fin 6144) (q : Fin 24576), Cert.RotRefIdeal.Block.X m' c (ix2 i q) = (x i q.val : EReal) :=
    fun i q => (congrFun a0 (ix2 i q)).trans (hx i q)
  have hh' : ∀ j k : Fin 12, Cert.RotRefIdeal.Block.H m' c (ix2 j k) = (had (j.val * 12 + k.val) : EReal) :=
    fun j k => (congrFun a1 (ix2 j k)).trans (hh j k)
  have hR := Cert.RotRefIdeal.Block.rows_real m' x had c hx' hh'
  refine ⟨h0.trans ?_, h1.trans ?_, h2.trans ?_, h3.trans ?_, ha⟩
  · rw [Cert.RotRefIdeal.Block.arr1]
    funext y
    obtain ⟨i, q, rfl⟩ : ∃ (i : Fin 6144) (q : Fin 24576), y = ix2 i q := ⟨y 0, y 1, eq_ix2 y⟩
    exact (Cert.RotRefIdeal.Block.code_at m' c i _ (hR i) q).trans (Cert.RotIdeal.Block.arr_codes m x had c hx hh i q).symm
  · rw [Cert.RotRefIdeal.Block.arr2]
    funext y
    obtain ⟨i, q, rfl⟩ : ∃ (i : Fin 6144) (q : Fin 24576), y = ix2 i q := ⟨y 0, y 1, eq_ix2 y⟩
    refine Eq.trans ?_ (Cert.RotIdeal.Block.arr_a8 m x had c hx hh i q).symm
    unfold Cert.RotRefIdeal.Gen.k0_pay6
    refine (Cert.RotRefIdeal.Block.codeArr_f8 _ i q).trans ?_
    rw [Cert.RotRefIdeal.Block.code_at m' c i _ (hR i) q]
    exact rowCode_signed (x i) had q
  · rw [Cert.RotRefIdeal.Block.arr3]
    funext y
    obtain ⟨i, l, rfl⟩ : ∃ (i : Fin 6144) (l : Fin 128), y = ix2 i l := ⟨y 0, y 1, eq_ix2 y⟩
    refine Eq.trans ?_ (Cert.RotIdeal.Block.arr_scale m x had c hx hh i l).symm
    unfold Cert.RotRefIdeal.Gen.k0_pay7
    exact (Cert.RotRefIdeal.Block.wide_apply _ i l).trans (Cert.RotRefIdeal.Block.scale_at m' c i _ (hR i))
  · rw [Cert.RotRefIdeal.Block.arr4]
    funext y
    obtain ⟨i, l, rfl⟩ : ∃ (i : Fin 6144) (l : Fin 128), y = ix2 i l := ⟨y 0, y 1, eq_ix2 y⟩
    refine Eq.trans ?_ (Cert.RotIdeal.Block.arr_zero m x had c hx hh i l).symm
    unfold Cert.RotRefIdeal.Gen.k0_pay8
    exact (Cert.RotRefIdeal.Block.wide_apply _ i l).trans (Cert.RotRefIdeal.Block.zero_at m' c i _ (hR i))

end Cert.RotEq

end
-- ==== Proof.DecModel.lean ====
/- What one run of the decode kernel's body stores, written with its loops as loops: the two four-bit fields of each word
   as signed numbers, each run of 128 of them times its power of two, and the running sum over the runs. The stores and the
   sum a run leaves are these, by the definitions alone. -/
module

public import proofs.«01_k».proof.Proof.Gen.DecIdeal.Frame

@[expose] public section

set_option maxRecDepth 16384

noncomputable section

namespace Cert.DecIdeal.Block

open Cert.DecIdeal Cert.DecIdeal.Gen Idealize.ShloMosaic Idealize.ShloMosaic.TcCoe Idealize.ShloMosaic.Tactic Idealize.SL.Sem

variable {F : FTy → Type} [FloatOps F]

/-- The fields `sh` bits up, as words. -/
def fieldWords (sh : BitVec 32) (b : Vec F S64x12288 .i8) : IVec S64x12288 32 :=
  andi (shrsi (extui 32 b natLt_8_32) (broadcast S64x12288 sh)) (broadcast S64x12288 15#32)

/-- Words of four bits as signed numbers. -/
def signedVals (n : IVec S64x12288 32) : FVec F S64x12288 .bf16 :=
  truncf .bf16 (sitofp .f32 (select (cmpi .sge n (broadcast S64x12288 8#32)) (subi n (broadcast S64x12288 16#32)) n)) bitsLt_bf16_f32

/-- The signed numbers of half `h`. -/
def half (b : Vec F S64x12288 .i8) (h : Nat) : FVec F S64x12288 .bf16 :=
  signedVals (fieldWords (if h = 0 then 0#32 else 4#32) b)

/-- The powers of two. -/
def powers (g : Vec F S64x192 .i8) : FVec F S64x192 .bf16 :=
  truncf .bf16 (exp2 (subf (broadcast S64x192 (Scalar.ofBits .f32 0x00000000#32)) (sitofp .f32 (extui 32 g natLt_8_32)))) bitsLt_bf16_f32

theorem slicesS (n : Nat) : S64x12288.Slices ![0, n % 96 * 128] S64x128 := ⟨rfl, fun a => by
  match a with
  | ⟨0, _⟩ => show 0 + 64 ≤ 64; omega
  | ⟨1, _⟩ => show n % 96 * 128 + 128 ≤ 12288; omega⟩

theorem slicesP (n : Nat) : S64x192.Slices ![0, n % 192] S64x1 := ⟨rfl, fun a => by
  match a with
  | ⟨0, _⟩ => show 0 + 64 ≤ 64; omega
  | ⟨1, _⟩ => show n % 192 + 1 ≤ 192; omega⟩

/-- Run `n` of the weights, from a half's numbers and the powers. -/
def runOf (s : FVec F S64x12288 .bf16) (p : FVec F S64x192 .bf16) (n : Nat) : FVec F S64x128 .bf16 :=
  mulf (extractStridedSlice S64x128 ![0, n % 96 * 128] s (slicesS n))
    (broadcastTo S64x128 (shapeCast S64x1 (extractStridedSlice S64x1 ![0, n % 192] p (slicesP n)) shapeCasts_S64x1_S64x1) broadcasts_S64x1_S64x128)

/-- Run `n` of the weights. -/
def run (b : Vec F S64x12288 .i8) (g : Vec F S64x192 .i8) (n : Nat) : FVec F S64x128 .bf16 := runOf (half b (n / 96)) (powers g) n

theorem inbW (n : Nat) : ∀ a, (![0, n % 192 * 128] : Fin 2 → Nat) a + S64x128.size a ≤ S64x24576.size a := fun a => by
  match a with
  | ⟨0, _⟩ => show 0 + 64 ≤ 64; omega
  | ⟨1, _⟩ => show n % 192 * 128 + 128 ≤ 24576; omega

/-- Its store. -/
def wPiece (b : Vec F S64x12288 .i8) (g : Vec F S64x192 .i8) (n : Nat) : View.Piece (Elt F) S64x24576 .fp8e4m3 :=
  ⟨Rect.unit (s := S64x24576) ![0, n % 192 * 128] S64x128.size (inbW n), truncf .fp8e4m3 (run b g n) bitsLt_fp8e4m3_bf16⟩

/-- `f (n-1), …, f 0`: stores in the order the last one first. -/
def lastFirst {α : Type} (f : Nat → α) : Nat → List α
  | 0 => []
  | n + 1 => f n :: lastFirst f n

/-- The running sum after `n` runs. -/
def running (w : Nat → FVec F S64x128 .bf16) : Nat → FVec F S64x128 .f32
  | 0 => broadcast S64x128 (Scalar.ofBits .f32 0x00000000#32)
  | n + 1 => addf (running w n) (extf .f32 (w n) bitsLt_bf16_f32)

/-- The sum over the lanes, at every lane. -/
def total (a : FVec F S64x128 .f32) : FVec F S64x128 .f32 :=
  broadcastTo S64x128 (shapeCast S64x1 (shapeCast S64x1 (multiReduction .add [1] S64 a 0x00000000#32 reduces_S64x128_S64 (.inl rfl) rfl) shapeCasts_S64_S64x1)
    shapeCasts_S64x1_S64x1) broadcasts_S64x1_S64x128

/-! ## The stores of a run of the body -/

theorem out2_eq (x0 : Vec F S64x12288 .i8) (x1 : Vec F S64x192 .i8) :
    out0_2 x0 x1 = View.canon (lastFirst (wPiece (View.ld x0 r0_0) (View.ld x1 r0_1)) 192) := by sl_kernel_rfl

theorem out3_eq (x0 : Vec F S64x12288 .i8) (x1 : Vec F S64x192 .i8) :
    out0_3 x0 x1 = View.canon [⟨Rect.unit (s := S64x128) ![0, 0] S64x128.size inb_S64x128_S64x128_0_0, total (running (run (View.ld x0 r0_0) (View.ld x1 r0_1)) 192)⟩] := by
  sl_kernel_rfl

end Cert.DecIdeal.Block
-- ==== Proof.DecSpec.lean ====
/- The weights a row of packed bytes and exponents stands for, over the extended reals: a byte holds two four-bit signed
   numbers, the low ones for the first half of the row and the high ones for the second, and each run of 128 weights has
   its own power of two. Also the sum of a row, in the two groupings the programs add it up in. -/
module

public import Idealize.ShloMosaic.Lib.IdealHost
public import Idealize.ShloMosaic.Lib.Pointwise

@[expose] public section

noncomputable section

namespace Cert.Decode

open Idealize.ShloMosaic Idealize.ShloMosaic.Pointwise

/-- The four bits `sh` up in a byte. -/
def field (sh : BitVec 32) (b : BitVec 8) : BitVec 32 := IntOp.andi (IntOp.shrsi .vector (b.setWidth 32) sh) 15#32

theorem field_zero (b : BitVec 8) : field 0#32 b = IntOp.andi (b.setWidth 32) 15#32 := by
  unfold field IntOp.shrsi
  rw [if_pos (by decide)]
  show IntOp.andi ((b.setWidth 32).sshiftRight 0) 15#32 = _
  rw [BitVec.sshiftRight_zero]

/-- Four bits as a signed number. -/
def signedWord (n : BitVec 32) : BitVec 32 := Scalar.select (IntOp.cmpi .sge n 8#32) (IntOp.subi n 16#32) n

/-- A signed number times its power of two. -/
def scaled (n : BitVec 32) (g : BitVec 8) : EReal :=
  (((signedWord n).toInt : ℝ) : EReal) * Ideal.exp2 (Ideal.ofBits .f32 0x00000000#32 - (((g.setWidth 32).toInt : ℝ) : EReal))

/-- Weight `n` of a row. -/
def weight (B : Nat → BitVec 8) (G : Nat → BitVec 8) (n : Nat) : EReal :=
  scaled (field (if n / 12288 = 0 then 0#32 else 4#32) (B (n % 12288))) (G (n / 128))

/-- Row `r` of an array of packed bytes, and of an array of exponents. -/
def rowB {n : Nat} (b : (⟨2, ![n, 12288]⟩ : Shape).Idx → BitVec 8) (r : Fin n) (q : Nat) : BitVec 8 := b (ix2 r ⟨q % 12288, Nat.mod_lt _ (by decide)⟩)
def rowG {n : Nat} (g : (⟨2, ![n, 192]⟩ : Shape).Idx → BitVec 8) (r : Fin n) (q : Nat) : BitVec 8 := g (ix2 r ⟨q % 192, Nat.mod_lt _ (by decide)⟩)

/-- The row's sum. -/
def rowSum (B : Nat → BitVec 8) (G : Nat → BitVec 8) : EReal := ∑ q : Fin 24576, weight B G q.val

/-- The running sum of a lane's weights over the first `n` runs. -/
def laneSum (f : Nat → EReal) : Nat → EReal
  | 0 => Ideal.ofBits .f32 0x00000000#32
  | n + 1 => laneSum f n + f n

theorem laneSum_eq (f : Nat → EReal) (n : Nat) : laneSum f n = ∑ j : Fin n, f j.val := by
  induction n with
  | zero => show Ideal.ofBits .f32 0x00000000#32 = _; rw [Ideal.ofBits_zero_f32]; rfl
  | succ n ih =>
    refine Eq.trans ?_ (Fin.sum_univ_castSucc _).symm
    show laneSum f n + f n = _
    rw [ih]
    rfl

/-- The lanes' sums add up to the row's. -/
theorem lanes_rowSum (B : Nat → BitVec 8) (G : Nat → BitVec 8) :
    (∑ l : Fin 128, laneSum (fun j => weight B G (j * 128 + l.val)) 192) = rowSum B G := by
  unfold rowSum
  rw [Fin.sum_univ_tiles 192 128 (by norm_num) (fun q : Fin 24576 => weight B G q.val), Finset.sum_comm]
  exact Finset.sum_congr rfl fun l _ => laneSum_eq _ _

/-- The two halves' sums add up to the row's. -/
theorem halves_rowSum (B : Nat → BitVec 8) (G : Nat → BitVec 8) :
    ((∑ k : Fin 12288, weight B G k.val) + ∑ k : Fin 12288, weight B G (12288 + k.val)) = rowSum B G := by
  unfold rowSum
  rw [Fin.sum_univ_two_halves 12288 12288 (by norm_num) (fun q : Fin 24576 => weight B G q.val)]

end Cert.Decode
-- ==== Proof.DecOut.lean ====
/- What one run of the decode kernel's body leaves in its two outputs, read at an index over the extended reals: the weights
   of the rows, and each row's sum at every lane. -/
module

public import proofs.«01_k».proof.Proof.DecModel
public import proofs.«01_k».proof.Proof.DecSpec

@[expose] public section

set_option maxRecDepth 16384

noncomputable section

namespace Cert.DecIdeal.Block

open Cert.DecIdeal Cert.DecIdeal.Gen Idealize.ShloMosaic Idealize.ShloMosaic.TcCoe Idealize.SL.Sem
open Idealize.ShloMosaic.Pointwise Cert.Decode

/-! ## Lists of stores, the last one first -/

theorem mem_lastFirst {α : Type} (f : Nat → α) {n N : Nat} (h : n < N) : f n ∈ lastFirst f N := by
  induction N with
  | zero => exact absurd h (Nat.not_lt_zero _)
  | succ N ih =>
    rcases Nat.lt_succ_iff_lt_or_eq.mp h with h | h
    · exact List.mem_cons_of_mem _ (ih h)
    · rw [h]; exact List.mem_cons_self

theorem of_mem_lastFirst {α : Type} (f : Nat → α) {N : Nat} {p : α} (h : p ∈ lastFirst f N) : ∃ n, n < N ∧ p = f n := by
  induction N with
  | zero => exact absurd h List.not_mem_nil
  | succ N ih =>
    rcases List.mem_cons.mp h with h | h
    · exact ⟨N, Nat.lt_succ_self _, h⟩
    · obtain ⟨n, hn, e⟩ := ih h
      exact ⟨n, Nat.lt_succ_of_lt hn, e⟩

/-- An array whose stores all hold the values of `G` and reach every place is `G`. -/
theorem canon_lastFirst {S : Shape} {e : EltTy} (f : Nat → View.Piece (Elt Ideal) S e) (N : Nat) (G : S.Idx → Elt Ideal e)
    (hv : ∀ n, n < N → ∀ x : (f n).1.shape.Idx, (f n).2 x = G ((f n).1.emb x)) (y : S.Idx) (n : Nat) (hn : n < N) (hy : y ∈ (f n).1.set) :
    View.canon (lastFirst f N) y = G y :=
  View.canon_apply_of_pieces G _ (fun p hp x => by
    obtain ⟨k, hk, rfl⟩ := of_mem_lastFirst f hp
    exact hv k hk x) y ⟨f n, mem_lastFirst f hn, hy⟩

/-! ## A run of weights at an index -/

theorem fieldWords_apply (sh : BitVec 32) (b : Vec Ideal S64x12288 .i8) (r : Fin 64) (q : Fin 12288) :
    fieldWords (F := Ideal) sh b (ix2 r q) = field sh (b (ix2 r q)) := by
  rfl

theorem signedVals_apply (n : IVec S64x12288 32) (r : Fin 64) (q : Fin 12288) :
    signedVals (F := Ideal) n (ix2 r q) = (((signedWord (n (ix2 r q))).toInt : ℝ) : EReal) := by
  rfl

theorem powers_apply (g : Vec Ideal S64x192 .i8) (r : Fin 64) (k : Fin 192) :
    powers (F := Ideal) g (ix2 r k) = Ideal.exp2 (Ideal.ofBits .f32 0x00000000#32 - ((((g (ix2 r k)).setWidth 32).toInt : ℝ) : EReal)) := by
  rfl

theorem runOf_apply (s : FVec Ideal S64x12288 .bf16) (p : FVec Ideal S64x192 .bf16) (n : Nat) (r : Fin 64) (l : Fin 128) :
    runOf s p n (ix2 r l) = s (ix2 r ⟨n % 96 * 128 + l.val, by have := l.isLt; omega⟩) * p (ix2 r ⟨n % 192, Nat.mod_lt _ (by decide)⟩) := by
  pointwise [runOf]

theorem run_apply (b : Vec Ideal S64x12288 .i8) (g : Vec Ideal S64x192 .i8) (n : Nat) (hn : n < 192) (r : Fin 64) (l : Fin 128) :
    run b g n (ix2 r l) = weight (rowB b r) (rowG g r) (n * 128 + l.val) := by
  have hl := l.isLt
  unfold run half weight rowB rowG
  rw [runOf_apply, signedVals_apply, fieldWords_apply, powers_apply]
  have e1 : (n * 128 + l.val) / 12288 = n / 96 := by omega
  have e2 : (n * 128 + l.val) % 12288 = n % 96 * 128 + l.val := by omega
  have e3 : (n * 128 + l.val) / 128 = n := by omega
  have e4 : (n % 96 * 128 + l.val) % 12288 = n % 96 * 128 + l.val := by omega
  simp only [e1, e2, e3, e4]
  rfl

theorem running_apply (b : Vec Ideal S64x12288 .i8) (g : Vec Ideal S64x192 .i8) (n : Nat) (hn : n ≤ 192) (r : Fin 64) (l : Fin 128) :
    running (run b g) n (ix2 r l) = laneSum (fun j => weight (rowB b r) (rowG g r) (j * 128 + l.val)) n := by
  induction n with
  | zero => rfl
  | succ n ih =>
    show running (run b g) n (ix2 r l) + run b g n (ix2 r l) = _
    rw [ih (by omega), run_apply b g n (by omega)]
    rfl

theorem total_apply (a : FVec Ideal S64x128 .f32) (r : Fin 64) (l : Fin 128) :
    total a (ix2 r l) = ∑ k : Fin 128, a (ix2 r k) := by
  pointwise [total]

/-! ## The outputs -/

theorem hz : (![0, 0] : Fin 2 → Nat) = fun _ => 0 := funext fun a => by fin_cases a <;> rfl

theorem out2_apply (x0 : Vec Ideal S64x12288 .i8) (x1 : Vec Ideal S64x192 .i8) (r : Fin 64) (q : Fin 24576) :
    out0_2 x0 x1 (ix2 r q) = weight (rowB x0 r) (rowG x1 r) q.val := by
  have hq := q.isLt
  rw [out2_eq, View.ld_unit_zero (S := S64x12288) hz, View.ld_unit_zero (S := S64x192) hz]
  refine canon_lastFirst (e := .fp8e4m3) _ 192 (fun y : S64x24576.Idx => weight (rowB x0 (y (0 : Fin 2))) (rowG x1 (y (0 : Fin 2))) (y (1 : Fin 2)).val)
    (fun n hn z => ?_) (ix2 r q) (q.val / 128) (by omega) ?_
  · obtain ⟨a, b, rfl⟩ : ∃ (a : Fin 64) (b : Fin 128), z = ix2 a b := ⟨z (0 : Fin 2), z (1 : Fin 2), eq_ix2 z⟩
    have hb := b.isLt
    have e0 : ((wPiece x0 x1 n).1.emb (ix2 a b) (0 : Fin 2)) = a := by
      apply Fin.ext
      show 0 + 1 * a.val = _; omega
    have e1 : ((wPiece x0 x1 n).1.emb (ix2 a b) (1 : Fin 2)).val = n * 128 + b.val := by
      show n % 192 * 128 + 1 * b.val = _; omega
    rw [e0, e1]
    exact run_apply x0 x1 n hn a b
  · refine (Rect.mem_set_unit (inb := inbW _)).mpr fun a => ?_
    match a with
    | ⟨0, _⟩ => exact ⟨Nat.zero_le _, by show r.val < 0 + 64; omega⟩
    | ⟨1, _⟩ => exact ⟨by show q.val / 128 % 192 * 128 ≤ q.val; omega, by show q.val < q.val / 128 % 192 * 128 + 128; omega⟩

theorem out3_apply (x0 : Vec Ideal S64x12288 .i8) (x1 : Vec Ideal S64x192 .i8) (r : Fin 64) (l : Fin 128) :
    out0_3 x0 x1 (ix2 r l) = rowSum (rowB x0 r) (rowG x1 r) := by
  rw [out3_eq, View.canon_unit_zero (S := S64x128) hz, View.ld_unit_zero (S := S64x12288) hz, View.ld_unit_zero (S := S64x192) hz, total_apply]
  rw [← lanes_rowSum]
  exact Finset.sum_congr rfl fun k _ => running_apply x0 x1 192 (Nat.le_refl _) r k

end Cert.DecIdeal.Block
-- ==== Proof.DecArray.lean ====
/- The decode kernel's two result arrays over the extended reals: the 48 points' blocks of 64 rows are the rows in order. -/
module

public import proofs.«01_k».proof.Proof.Gen.DecIdeal.Value
public import proofs.«01_k».proof.Proof.DecOut

@[expose] public section

set_option maxRecDepth 16384

noncomputable section

namespace Cert.DecIdeal.Block

open Cert.DecIdeal Cert.DecIdeal.Gen Cert.DecIdeal.Value Idealize.ShloMosaic Idealize.ShloMosaic.TcCoe Idealize.SL.Sem
open Idealize.ShloMosaic.Pipeline (Dat)
open Idealize.ShloMosaic.Pointwise Cert.Decode

variable (m : (ℓ : Loc nD τ sig) → Buf (Elt Ideal) ℓ) (ρ : Dev nD → PrngReg)

/-- The packed bytes and the exponents, as launched. -/
abbrev B (c : Dev nD) : Vec Ideal S3072x12288 .i8 := m ((c : Thread nD τ).loc main_arg0)
abbrev G (c : Dev nD) : Vec Ideal S3072x192 .i8 := m ((c : Thread nD τ).loc main_arg1)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)

theorem blk0 (c : Dev nD) (t : Fin cfg0.N) (r : Fin 64) (q : Fin 12288) :
    (iblk m c 0 t : Vec Ideal S64x12288 .i8) (ix2 r q) = B m c (ix2 ⟨t.val * 64 + r.val, by have := lt_of_lt_of_eq t.isLt N_0; have := r.isLt; omega⟩ q) := by
  obtain ⟨e0, e1⟩ := idx0 t
  unfold iblk
  rw [View.read_apply]
  show V m c main_arg0 _ = _
  rw [V_main_arg0]
  congr 1
  funext a; apply Fin.ext
  match a with
  | ⟨0, _⟩ => show win0_0.index t 0 * 64 + 1 * r.val = t.val * 64 + r.val; rw [e0]; omega
  | ⟨1, _⟩ => show win0_0.index t 1 * 12288 + 1 * q.val = q.val; rw [e1]; omega

theorem blk1 (c : Dev nD) (t : Fin cfg0.N) (r : Fin 64) (q : Fin 192) :
    (iblk m c 1 t : Vec Ideal S64x192 .i8) (ix2 r q) = G m c (ix2 ⟨t.val * 64 + r.val, by have := lt_of_lt_of_eq t.isLt N_0; have := r.isLt; omega⟩ q) := by
  obtain ⟨e0, e1⟩ := idx1 t
  unfold iblk
  rw [View.read_apply]
  show V m c main_arg1 _ = _
  rw [V_main_arg1]
  congr 1
  funext a; apply Fin.ext
  match a with
  | ⟨0, _⟩ => show win0_1.index t 0 * 64 + 1 * r.val = t.val * 64 + r.val; rw [e0]; omega
  | ⟨1, _⟩ => show win0_1.index t 1 * 192 + 1 * q.val = q.val; rw [e1]; omega

/-- A row of a point's blocks is the row of the arrays. -/
theorem rowB_blk (c : Dev nD) (i : Fin 3072) (ht : i.val / 64 < cfg0.N) (h : i.val % 64 < 64) :
    rowB (iblk m c 0 ⟨i.val / 64, ht⟩ : Vec Ideal S64x12288 .i8) ⟨i.val % 64, h⟩ = rowB (B m c) i := by
  funext q
  unfold rowB
  rw [blk0]
  congr 2
  apply Fin.ext
  show i.val / 64 * 64 + i.val % 64 = i.val
  omega

theorem rowG_blk (c : Dev nD) (i : Fin 3072) (ht : i.val / 64 < cfg0.N) (h : i.val % 64 < 64) :
    rowG (iblk m c 1 ⟨i.val / 64, ht⟩ : Vec Ideal S64x192 .i8) ⟨i.val % 64, h⟩ = rowG (G m c) i := by
  funext q
  unfold rowG
  rw [blk1]
  congr 2
  apply Fin.ext
  show i.val / 64 * 64 + i.val % 64 = i.val
  omega

/-- What a block moves, at the index with the same coordinates. -/
theorem cut_at (w : Pipeline.Window sig grid0) {α : Type} (i : grid0.Coords) (f : w.block.Idx → α) (j : (w.xblock i).Idx) (j' : w.block.Idx)
    (h : ∀ a, (j a).val = (j' a).val) : w.cut i f j = f j' :=
  congrArg f (funext fun a => Fin.ext (h a))

theorem arr_w8 (c : Dev nD) (i : Fin 3072) (q : Fin 24576) :
    ((dats m 0 c).arrAt 2 cfg0.N : Vec Ideal S3072x24576 .fp8e4m3) (ix2 i q) = weight (rowB (B m c) i) (rowG (G m c) i) q.val := by
  have hi := i.isLt
  have ht : i.val / 64 < cfg0.N := lt_of_lt_of_eq (by omega : i.val / 64 < 48) N_0.symm
  obtain ⟨e0, e1⟩ := idx2 ⟨i.val / 64, ht⟩
  have h := congrFun (blocks2 m c ⟨i.val / 64, ht⟩ ((by decide +kernel : ∀ t : Fin grid0.N, (cfg0.win 2).flush t = true) _))
    (ix2 (⟨i.val % 64, Nat.mod_lt _ (by decide)⟩ : Fin 64) q)
  rw [View.read_apply, flushed2] at h
  have e : ((cfg0.win 2).blk ⟨i.val / 64, ht⟩).view.emb (ix2 (⟨i.val % 64, Nat.mod_lt _ (by decide)⟩ : Fin 64) q) = (ix2 i q : S3072x24576.Idx) := by
    funext a; apply Fin.ext
    match a with
    | ⟨0, _⟩ => show win0_2.index ⟨i.val / 64, ht⟩ 0 * 64 + 1 * (i.val % 64) = i.val; rw [e0]; show i.val / 64 * 64 + 1 * (i.val % 64) = i.val; omega
    | ⟨1, _⟩ => show win0_2.index ⟨i.val / 64, ht⟩ 1 * 24576 + 1 * q.val = q.val; rw [e1]; omega
  rw [e] at h
  have k := out2_apply (iblk m c 0 ⟨i.val / 64, ht⟩) (iblk m c 1 ⟨i.val / 64, ht⟩) (⟨i.val % 64, Nat.mod_lt _ (by decide)⟩ : Fin 64) q
  rw [rowB_blk, rowG_blk] at k
  rw [cast_eq] at h
  refine Eq.trans (h.trans (cut_at _ _ _ _ _ ?_)) k
  intro a
  match a with
  | ⟨0, _⟩ => rfl
  | ⟨1, _⟩ => rfl

theorem arr_colsum (c : Dev nD) (i : Fin 3072) (q : Fin 128) :
    ((dats m 0 c).arrAt 3 cfg0.N : Vec Ideal S3072x128 .f32) (ix2 i q) = rowSum (rowB (B m c) i) (rowG (G m c) i) := by
  have hi := i.isLt
  have ht : i.val / 64 < cfg0.N := lt_of_lt_of_eq (by omega : i.val / 64 < 48) N_0.symm
  obtain ⟨e0, e1⟩ := idx3 ⟨i.val / 64, ht⟩
  have h := congrFun (blocks3 m c ⟨i.val / 64, ht⟩ ((by decide +kernel : ∀ t : Fin grid0.N, (cfg0.win 3).flush t = true) _))
    (ix2 (⟨i.val % 64, Nat.mod_lt _ (by decide)⟩ : Fin 64) q)
  rw [View.read_apply, flushed3] at h
  have e : ((cfg0.win 3).blk ⟨i.val / 64, ht⟩).view.emb (ix2 (⟨i.val % 64, Nat.mod_lt _ (by decide)⟩ : Fin 64) q) = (ix2 i q : S3072x128.Idx) := by
    funext a; apply Fin.ext
    match a with
    | ⟨0, _⟩ => show win0_3.index ⟨i.val / 64, ht⟩ 0 * 64 + 1 * (i.val % 64) = i.val; rw [e0]; show i.val / 64 * 64 + 1 * (i.val % 64) = i.val; omega
    | ⟨1, _⟩ => show win0_3.index ⟨i.val / 64, ht⟩ 1 * 128 + 1 * q.val = q.val; rw [e1]; omega
  rw [e] at h
  have k := out3_apply (iblk m c 0 ⟨i.val / 64, ht⟩) (iblk m c 1 ⟨i.val / 64, ht⟩) (⟨i.val % 64, Nat.mod_lt _ (by decide)⟩ : Fin 64) q
  rw [rowB_blk, rowG_blk] at k
  rw [cast_eq] at h
  refine Eq.trans (h.trans (cut_at _ _ _ _ _ ?_)) k
  intro a
  match a with
  | ⟨0, _⟩ => rfl
  | ⟨1, _⟩ => rfl

end Cert.DecIdeal.Block
-- ==== Proof.DecRefRun.lean ====
/- The run of the decode reference: its two result arrays named, and each read back block by block. -/
module

public import proofs.«01_k».proof.Proof.Gen.DecRefIdeal.Frame
public import Idealize.ShloMosaic.Lib.Pipeline.Value

@[expose] public section

noncomputable section

namespace Cert.DecRefIdeal.Block

open Cert.DecRefIdeal Cert.DecRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What the point writes back to output 2: the body's result for it. -/
theorem flushed2 (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- Different points write different blocks. -/
theorem idx_inj2 : ∀ t t' : Fin cfg0.N, win0_2.index t = win0_2.index t' → t = t' :=
  (by decide +kernel : ∀ t t' : Fin grid0.N, win0_2.index t = win0_2.index t' → t = t')

/-- So no two points write one place. -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- A block of the final array is what its point wrote back. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- What the point writes back to output 3: the body's result for it. -/
theorem flushed3 (c : Dev nD) (t : Fin cfg0.N) :
    (dats m 0 c).flushed 3 t = (cfg0.win 3).cut (grid0.coords t) (out0_3 (iblk m c 0 t) (iblk m c 1 t)) := by
  show (cfg0.win 3).cut (grid0.coords t) ((dats m 0 c).after 3 t) = _
  rw [after0_3]

/-- Different points write different blocks. -/
theorem idx_inj3 : ∀ t t' : Fin cfg0.N, win0_3.index t = win0_3.index t' → t = t' :=
  (by decide +kernel : ∀ t t' : Fin grid0.N, win0_3.index t = win0_3.index t' → t = t')

/-- So no two points write one place. -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- A block of the final array is what its point wrote back. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- Output 2 after the run. -/
theorem post2 (r : PUnit × MemSt nD τ sig (Elt F)) (h : Pipeline.FramePost cfgs (dats m) 0 (V m) r) (c : Dev nD) :
    r.2.mem ((c : Thread nD τ).loc main_v0_0) = (dats m 0 c).arrAt 2 cfg0.N :=
  (h c).1 2

/-- Output 3 after the run. -/
theorem post3 (r : PUnit × MemSt nD τ sig (Elt F)) (h : Pipeline.FramePost cfgs (dats m) 0 (V m) r) (c : Dev nD) :
    r.2.mem ((c : Thread nD τ).loc main_v0_1) = (dats m 0 c).arrAt 3 cfg0.N :=
  (h c).1 3

/-- Argument 0 after the run: as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- Argument 1 after the run: as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The run: its two result arrays named, the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 2 cfg0.N
      ∧ r.2.mem ((c : Thread nD τ).loc main_v0_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c,
      post3 m r h c,
      kept_main_arg0 m r h c,
      kept_main_arg1 m r h c⟩)
    (run_main m ρ)

end Cert.DecRefIdeal.Block
-- ==== Proof.DecRefValue.lean ====
/- The decode reference over the extended reals: its one block is the whole of every array, so its two results are the
   weights and the row sums of the packed arrays, read here at an index. -/
module

public import proofs.«01_k».proof.Proof.DecRefRun
public import proofs.«01_k».proof.Proof.DecSpec

@[expose] public section

set_option maxRecDepth 16384

noncomputable section

namespace Cert.DecRefIdeal.Block

open Cert.DecRefIdeal Cert.DecRefIdeal.Gen Idealize.ShloMosaic Idealize.ShloMosaic.TcCoe Idealize.SL.Sem
open Idealize.ShloMosaic.Pipeline (Dat)
open Idealize.ShloMosaic.Pointwise Cert.Decode

/-! ## One half of the weights -/

/-- The lines from words and exponents to weights. -/
def halfArr (n : IVec S3072x12288 32) (g : IVec S3072x96 8) : FVec Ideal S3072x12288 .fp8e4m3 :=
  truncf .fp8e4m3 (shapeCast S3072x12288 (mulf (shapeCast S3072x96x128 (sitofp (F := Ideal) .bf16 (select (cmpi .sge n (broadcast S3072x12288 8#32))
      (subi n (broadcast S3072x12288 16#32)) n)) shapeCasts_S3072x12288_S3072x96x128)
    (broadcastTo S3072x96x128 (shapeCast S3072x96x1 (truncf .bf16 (exp2 (subf (broadcast S3072x96 (Scalar.ofBits (F := Ideal) .f32 0x00000000#32))
      (sitofp .f32 (extui 32 g natLt_8_32)))) bitsLt_bf16_f32) shapeCasts_S3072x96_S3072x96x1) broadcasts_S3072x96x1_S3072x96x128))
    shapeCasts_S3072x96x128_S3072x12288) bitsLt_fp8e4m3_bf16

theorem halfArr_apply (n : IVec S3072x12288 32) (g : IVec S3072x96 8) (i : Fin 3072) (q : Fin 12288) :
    halfArr n g (ix2 i q) = scaled (n (ix2 i q)) (g (ix2 i ⟨q.val / 128, by have := q.isLt; omega⟩)) := by
  unfold scaled signedWord
  pointwise [halfArr]
  rfl

/-- The low fields, and the high ones. -/
def lowWords (b : Vec Ideal S3072x12288 .i8) : IVec S3072x12288 32 := andi (extui 32 b natLt_8_32) (broadcast S3072x12288 15#32)
def highWords (b : Vec Ideal S3072x12288 .i8) : IVec S3072x12288 32 :=
  andi (shrsi (extui 32 b natLt_8_32) (broadcast S3072x12288 4#32)) (broadcast S3072x12288 15#32)

theorem pay3_eq (b : Vec Ideal S3072x12288 .i8) (g : Vec Ideal S3072x192 .i8) :
    k0_pay3 b g = halfArr (lowWords b) (extractStridedSlice S3072x96 ![0, 0] g slices_S3072x192_o0_0_S3072x96) := by
  unfold k0_pay3 k0_pay2 halfArr lowWords; rfl

theorem pay4_eq (b : Vec Ideal S3072x12288 .i8) (g : Vec Ideal S3072x192 .i8) :
    k0_pay4 b g = halfArr (highWords b) (extractStridedSlice S3072x96 ![0, 96] g slices_S3072x192_o0_96_S3072x96) := by
  unfold k0_pay4 k0_pay2 halfArr highWords; rfl

theorem low_apply (b : Vec Ideal S3072x12288 .i8) (g : Vec Ideal S3072x192 .i8) (i : Fin 3072) (q : Fin 12288) :
    k0_pay3 b g (ix2 i q) = weight (rowB b i) (rowG g i) q.val := by
  have hq := q.isLt
  rw [pay3_eq, halfArr_apply]
  unfold weight rowB rowG
  have e1 : q.val / 12288 = 0 := by omega
  have e2 : q.val % 12288 = q.val := by omega
  have e3 : q.val / 128 % 192 = q.val / 128 := by omega
  simp only [e1, e2, e3]
  rw [if_pos trivial, field_zero]
  have eg : extractStridedSlice S3072x96 ![0, 0] g slices_S3072x192_o0_0_S3072x96 (ix2 i (⟨q.val / 128, by omega⟩ : Fin 96)) = g (ix2 i (⟨q.val / 128, by omega⟩ : Fin 192)) := by
    pointwise
  rw [eg]
  rfl

theorem high_apply (b : Vec Ideal S3072x12288 .i8) (g : Vec Ideal S3072x192 .i8) (i : Fin 3072) (q : Fin 12288) :
    k0_pay4 b g (ix2 i q) = weight (rowB b i) (rowG g i) (12288 + q.val) := by
  have hq := q.isLt
  rw [pay4_eq, halfArr_apply]
  unfold weight rowB rowG
  have e1 : (12288 + q.val) / 12288 = 1 := by omega
  have e2 : (12288 + q.val) % 12288 = q.val := by omega
  have e3 : (12288 + q.val) / 128 % 192 = 96 + q.val / 128 := by omega
  have e4 : q.val % 12288 = q.val := by omega
  simp only [e1, e2, e3, e4]
  rw [if_neg (by decide)]
  have eg : extractStridedSlice S3072x96 ![0, 96] g slices_S3072x192_o0_96_S3072x96 (ix2 i (⟨q.val / 128, by omega⟩ : Fin 96)) = g (ix2 i (⟨96 + q.val / 128, by omega⟩ : Fin 192)) := by
    pointwise
  rw [eg]
  rfl

/-! ## The row sums -/

theorem sums_apply (u v : FVec Ideal S3072x12288 .fp8e4m3) (i : Fin 3072) (l : Fin 128) :
    k0_pay1 u v (ix2 i l) = (∑ k : Fin 12288, u (ix2 i k)) + ∑ k : Fin 12288, v (ix2 i k) := by
  pointwise [k0_pay1]

/-! ## What the body leaves -/

theorem hz : (![0, 0] : Fin 2 → Nat) = fun _ => 0 := funext fun a => by fin_cases a <;> rfl

theorem out2_apply (b : Vec Ideal S3072x12288 .i8) (g : Vec Ideal S3072x192 .i8) (i : Fin 3072) (q : Fin 24576) :
    out0_2 b g (ix2 i q) = weight (rowB b i) (rowG g i) q.val := by
  have hq := q.isLt
  unfold out0_2 k0_pay5 k0_pay6
  rw [View.ld_unit_zero (S := S3072x12288) hz, View.ld_unit_zero (S := S3072x192) hz]
  refine View.canon_apply_of_pieces (Val := Elt Ideal) (e := .fp8e4m3) (fun y : S3072x24576.Idx => weight (rowB b (y (0 : Fin 2))) (rowG g (y (0 : Fin 2))) (y (1 : Fin 2)).val) _
    (fun p hp x => ?_) (ix2 i q) ?_
  · rcases List.mem_cons.mp hp with rfl | hp
    · obtain ⟨a, k, rfl⟩ : ∃ (a : Fin 3072) (k : Fin 12288), x = ix2 a k := ⟨x (0 : Fin 2), x (1 : Fin 2), eq_ix2 x⟩
      have e0 : (r0_3.emb (ix2 a k) (0 : Fin 2)) = a := by apply Fin.ext; show 0 + 1 * a.val = _; omega
      have e1 : (r0_3.emb (ix2 a k) (1 : Fin 2)).val = 12288 + k.val := by show 12288 + 1 * k.val = _; omega
      beta_reduce
      rw [e0, e1]
      exact high_apply b g a k
    · rcases List.mem_cons.mp hp with rfl | hp
      · obtain ⟨a, k, rfl⟩ : ∃ (a : Fin 3072) (k : Fin 12288), x = ix2 a k := ⟨x (0 : Fin 2), x (1 : Fin 2), eq_ix2 x⟩
        have e0 : (r0_2.emb (ix2 a k) (0 : Fin 2)) = a := by apply Fin.ext; show 0 + 1 * a.val = _; omega
        have e1 : (r0_2.emb (ix2 a k) (1 : Fin 2)).val = k.val := by show 0 + 1 * k.val = _; omega
        beta_reduce
        rw [e0, e1]
        exact low_apply b g a k
      · exact absurd hp List.not_mem_nil
  · exact cover0_2 _ _ _

theorem out3_apply (b : Vec Ideal S3072x12288 .i8) (g : Vec Ideal S3072x192 .i8) (i : Fin 3072) (l : Fin 128) :
    out0_3 b g (ix2 i l) = rowSum (rowB b i) (rowG g i) := by
  unfold out0_3 k0_pay5 k0_pay6
  rw [View.canon_unit_zero (S := S3072x128) hz, View.ld_unit_zero (S := S3072x12288) hz, View.ld_unit_zero (S := S3072x192) hz, sums_apply, ← halves_rowSum]
  exact congrArg₂ _ (Finset.sum_congr rfl fun k _ => low_apply b g i k) (Finset.sum_congr rfl fun k _ => high_apply b g i k)

/-! ## Each window's one block is its whole array -/

variable (m : (ℓ : Loc nD τ sig) → Buf (Elt Ideal) ℓ)

abbrev t0 : Fin cfg0.N := ⟨0, by rw [show cfg0.N = 1 from N_0]; decide⟩

/-- The packed bytes and the exponents, as launched. -/
abbrev B (c : Dev nD) : Vec Ideal S3072x12288 .i8 := m ((c : Thread nD τ).loc main_arg0)
abbrev G (c : Dev nD) : Vec Ideal S3072x192 .i8 := m ((c : Thread nD τ).loc main_arg1)

theorem blk0 (c : Dev nD) : (iblk m c 0 t0 : Vec Ideal S3072x12288 .i8) = B m c := by
  have hz' : (fun a => win0_0.index t0 a * main_arg0.ty.shape.size a) = fun _ => 0 := funext fun a => by fin_cases a <;> decide +kernel
  exact (Memref.read_access_unit_zero (Elt Ideal) main_arg0 hz' (fun a => by rw [congrFun hz' a]; simp) (V m c main_arg0)).trans (V_main_arg0 m c)

theorem blk1 (c : Dev nD) : (iblk m c 1 t0 : Vec Ideal S3072x192 .i8) = G m c := by
  have hz' : (fun a => win0_1.index t0 a * main_arg1.ty.shape.size a) = fun _ => 0 := funext fun a => by fin_cases a <;> decide +kernel
  exact (Memref.read_access_unit_zero (Elt Ideal) main_arg1 hz' (fun a => by rw [congrFun hz' a]; simp) (V m c main_arg1)).trans (V_main_arg1 m c)

theorem arr2 (c : Dev nD) : (dats m 0 c).arrAt 2 cfg0.N = out0_2 (B m c) (G m c) := by
  have hz' : (fun a => win0_2.index t0 a * main_v0_0.ty.shape.size a) = fun _ => 0 := funext fun a => by fin_cases a <;> decide +kernel
  have h := blocks2 m c t0 (by decide +kernel)
  rw [flushed2, blk0, blk1] at h
  refine (Memref.read_access_unit_zero (Elt Ideal) main_v0_0 hz' (fun a => by rw [congrFun hz' a]; simp) _).symm.trans (h.trans ?_)
  rfl

theorem arr3 (c : Dev nD) : (dats m 0 c).arrAt 3 cfg0.N = out0_3 (B m c) (G m c) := by
  have hz' : (fun a => win0_3.index t0 a * main_v0_1.ty.shape.size a) = fun _ => 0 := funext fun a => by fin_cases a <;> decide +kernel
  have h := blocks3 m c t0 (by decide +kernel)
  rw [flushed3, blk0, blk1] at h
  refine (Memref.read_access_unit_zero (Elt Ideal) main_v0_1 hz' (fun a => by rw [congrFun hz' a]; simp) _).symm.trans (h.trans ?_)
  rfl

end Cert.DecRefIdeal.Block
-- ==== Proof.DecEq.lean ====
/- The decode kernel and its reference end equal over the extended reals, at every input: each result is the weights, or the
   row sums, of the launched arrays, and the launched arrays are the same. -/
module

public import proofs.«01_k».proof.Defs
public import proofs.«01_k».proof.Proof.DecArray
public import proofs.«01_k».proof.Proof.DecRefValue

@[expose] public section

set_option maxRecDepth 16384

noncomputable section

namespace Cert.DecEq

open Idealize.ShloMosaic Idealize.SL.Sem Idealize.ShloMosaic.Pointwise

theorem algebraic : Cert.algebraic_DecIdeal_DecRefIdeal (hDecIdeal := Cert.DecIdeal.Gen.facts) (hDecRefIdeal := Cert.DecRefIdeal.Gen.facts) :=
  fun m ρ m' ρ' _ hag => by
    refine ⟨fun c => (Cert.DecIdeal.Gen.dats m 0 c).arrAt 2 Cert.DecIdeal.cfg0.N, fun c => (Cert.DecIdeal.Gen.dats m 0 c).arrAt 3 Cert.DecIdeal.cfg0.N,
      Cert.DecIdeal.Value.run_blocks m ρ,
      (θ_run _ _ _).mono (fun r h c => ⟨(h c).1.trans ?_, (h c).2.1.trans ?_, (h c).2.2⟩) (Cert.DecRefIdeal.Block.run_blocks m' ρ')⟩
    · have e0 : Cert.DecRefIdeal.Block.B m' c = Cert.DecIdeal.Block.B m c := (hag c).1
      have e1 : Cert.DecRefIdeal.Block.G m' c = Cert.DecIdeal.Block.G m c := (hag c).2
      refine (Cert.DecRefIdeal.Block.arr2 m' c).trans ?_
      funext y
      obtain ⟨i, q, rfl⟩ : ∃ (i : Fin 3072) (q : Fin 24576), y = ix2 i q := ⟨y 0, y 1, eq_ix2 y⟩
      rw [Cert.DecRefIdeal.Block.out2_apply, e0, e1]
      exact (Cert.DecIdeal.Block.arr_w8 m c i q).symm
    · have e0 : Cert.DecRefIdeal.Block.B m' c = Cert.DecIdeal.Block.B m c := (hag c).1
      have e1 : Cert.DecRefIdeal.Block.G m' c = Cert.DecIdeal.Block.G m c := (hag c).2
      refine (Cert.DecRefIdeal.Block.arr3 m' c).trans ?_
      funext y
      obtain ⟨i, q, rfl⟩ : ∃ (i : Fin 3072) (q : Fin 128), y = ix2 i q := ⟨y 0, y 1, eq_ix2 y⟩
      rw [Cert.DecRefIdeal.Block.out3_apply, e0, e1]
      exact (Cert.DecIdeal.Block.arr_colsum m c i q).symm

end Cert.DecEq
-- ==== Proof.lean ====
/- The claims about the rotation call, the weight decoding call and the product call, assembled: every run of each kernel, of
   its idealization and of its reference ends with no buffer lost and every semaphore counter at zero; each idealization is
   its kernel unchanged; and over the extended reals each kernel's results are its reference's: the product's and the
   decoding's at every input, the rotation's at every input of real numbers. -/
module

public import proofs.«01_k».proof.Defs
public import proofs.«01_k».proof.Proof.Gen.Gemm
public import proofs.«01_k».proof.Proof.Gen.Gemm.Skeleton
public import proofs.«01_k».proof.Proof.Gen.Gemm.Launch
public import proofs.«01_k».proof.Proof.Gen.Gemm.Points
public import proofs.«01_k».proof.Proof.Gen.Gemm.Frame
public import proofs.«01_k».proof.Proof.Gen.GemmIdeal
public import proofs.«01_k».proof.Proof.Gen.GemmIdeal.Skeleton
public import proofs.«01_k».proof.Proof.Gen.GemmIdeal.Launch
public import proofs.«01_k».proof.Proof.Gen.GemmIdeal.Points
public import proofs.«01_k».proof.Proof.Gen.GemmIdeal.Frame
public import proofs.«01_k».proof.Proof.Gen.GemmRefIdeal
public import proofs.«01_k».proof.Proof.Gen.GemmRefIdeal.Skeleton
public import proofs.«01_k».proof.Proof.Gen.GemmRefIdeal.Launch
public import proofs.«01_k».proof.Proof.Gen.GemmRefIdeal.Points
public import proofs.«01_k».proof.Proof.Gen.GemmRefIdeal.Frame
public import proofs.«01_k».proof.Proof.Gen.GemmIdeal.Value
public import proofs.«01_k».proof.Proof.Gen.GemmRefIdeal.Value
public import proofs.«01_k».proof.Proof.Gen.Rot
public import proofs.«01_k».proof.Proof.Gen.Rot.Skeleton
public import proofs.«01_k».proof.Proof.Gen.Rot.Launch
public import proofs.«01_k».proof.Proof.Gen.Rot.Points
public import proofs.«01_k».proof.Proof.Gen.Rot.Frame
public import proofs.«01_k».proof.Proof.Gen.RotIdeal
public import proofs.«01_k».proof.Proof.Gen.RotIdeal.Skeleton
public import proofs.«01_k».proof.Proof.Gen.RotIdeal.Launch
public import proofs.«01_k».proof.Proof.Gen.RotIdeal.Points
public import proofs.«01_k».proof.Proof.Gen.RotIdeal.Frame
public import proofs.«01_k».proof.Proof.Gen.RotRefIdeal
public import proofs.«01_k».proof.Proof.Gen.RotRefIdeal.Skeleton
public import proofs.«01_k».proof.Proof.Gen.RotRefIdeal.Launch
public import proofs.«01_k».proof.Proof.Gen.RotRefIdeal.Points
public import proofs.«01_k».proof.Proof.Gen.RotRefIdeal.Frame
public import proofs.«01_k».proof.Proof.Gen.RotIdeal.Value
public import proofs.«01_k».proof.Proof.Gen.RotRefIdeal.Value
public import proofs.«01_k».proof.Proof.Gen.Dec
public import proofs.«01_k».proof.Proof.Gen.Dec.Skeleton
public import proofs.«01_k».proof.Proof.Gen.Dec.Launch
public import proofs.«01_k».proof.Proof.Gen.Dec.Points
public import proofs.«01_k».proof.Proof.Gen.Dec.Frame
public import proofs.«01_k».proof.Proof.Gen.DecIdeal
public import proofs.«01_k».proof.Proof.Gen.DecIdeal.Skeleton
public import proofs.«01_k».proof.Proof.Gen.DecIdeal.Launch
public import proofs.«01_k».proof.Proof.Gen.DecIdeal.Points
public import proofs.«01_k».proof.Proof.Gen.DecIdeal.Frame
public import proofs.«01_k».proof.Proof.Gen.DecRefIdeal
public import proofs.«01_k».proof.Proof.Gen.DecRefIdeal.Skeleton
public import proofs.«01_k».proof.Proof.Gen.DecRefIdeal.Launch
public import proofs.«01_k».proof.Proof.Gen.DecRefIdeal.Points
public import proofs.«01_k».proof.Proof.Gen.DecRefIdeal.Frame
public import proofs.«01_k».proof.Proof.Gen.DecIdeal.Value
public import proofs.«01_k».proof.Proof.Gen.Pre_finite
public import proofs.«01_k».proof.Proof.GemmEq
public import proofs.«01_k».proof.Proof.RotEq
public import proofs.«01_k».proof.Proof.DecEq
public import Idealize.ShloMosaic.Adequacy
public import Idealize.ShloMosaic.Init

@[expose] public section

noncomputable section

namespace Cert.Proof

open Idealize.ShloMosaic Idealize.SL.Sem

theorem claim : Cert.Claim := ⟨Cert.Gemm.Gen.facts, Cert.GemmIdeal.Gen.facts, Cert.GemmRefIdeal.Gen.facts,
  Cert.Rot.Gen.facts, Cert.RotIdeal.Gen.facts, Cert.RotRefIdeal.Gen.facts,
  Cert.Dec.Gen.facts, Cert.DecIdeal.Gen.facts, Cert.DecRefIdeal.Gen.facts, Cert.Pre_finite.Gen.facts,
  fun m ρ _ => Cert.Gemm.Gen.frame m ρ, fun m ρ _ => Cert.GemmIdeal.Gen.frame m ρ, fun m ρ _ => Cert.GemmRefIdeal.Gen.frame m ρ,
  fun m ρ _ => Cert.Rot.Gen.frame m ρ, fun m ρ _ => Cert.RotIdeal.Gen.frame m ρ, fun m ρ _ => Cert.RotIdeal.Gen.frame m ρ,
  fun m ρ _ => Cert.RotRefIdeal.Gen.frame m ρ, fun m ρ _ => Cert.RotRefIdeal.Gen.frame m ρ,
  fun m ρ _ => Cert.Dec.Gen.frame m ρ, fun m ρ _ => Cert.DecIdeal.Gen.frame m ρ, fun m ρ _ => Cert.DecRefIdeal.Gen.frame m ρ,
  trivial, Cert.GemmEq.algebraic, trivial, Cert.RotEq.algebraic,
  trivial, Cert.DecEq.algebraic⟩

end Cert.Proof

end
